-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x8192x5120 : Shape := ⟨3, ![3, 8192, 5120]⟩
abbrev S5120x896 : Shape := ⟨2, ![5120, 896]⟩
abbrev S40x1792 : Shape := ⟨2, ![40, 1792]⟩
abbrev S1792 : Shape := ⟨1, ![1792]⟩
abbrev S_ : Shape := ⟨0, ![]⟩

class Facts : Prop where
  bcast_S_S3x8192x5120 : S_.BroadcastsInDim S3x8192x5120 (![] : Fin 0 → Fin S3x8192x5120.rank)

variable [Facts]

def fn {F : FTy → Type} [FloatOps F] (main_arg0 : FVec F S3x8192x5120 .bf16) (main_arg1 : IVec S5120x896 8) (main_arg2 : FVec F S40x1792 .f32) (main_arg3 : IVec S40x1792 8) (main_arg4 : FVec F S1792 .f32) : IVec S3x8192x5120 1 :=
  let main_v0 : FVec F S3x8192x5120 .bf16 := Host.absf main_arg0
  let main_cst : FVec F S_ .bf16 := constant S_ .bf16 0x7F7F#16
  let main_v1 : FVec F S3x8192x5120 .bf16 := broadcastInDim S3x8192x5120 ![] bcast_S_S3x8192x5120 main_cst
  let main_v2 : IVec S3x8192x5120 1 := cmpf .ole main_v0 main_v1
  main_v2
-- ==== Kernel.lean ====
abbrev S3x8192x5120 : Shape := ⟨3, ![3, 8192, 5120]⟩
abbrev S5120x896 : Shape := ⟨2, ![5120, 896]⟩
abbrev S40x1792 : Shape := ⟨2, ![40, 1792]⟩
abbrev S1792 : Shape := ⟨1, ![1792]⟩
abbrev S24576x5120 : Shape := ⟨2, ![24576, 5120]⟩
abbrev S1x1792 : Shape := ⟨2, ![1, 1792]⟩
abbrev S24576x1792 : Shape := ⟨2, ![24576, 1792]⟩
abbrev S24576x1 : Shape := ⟨2, ![24576, 1]⟩
abbrev S512x5120 : Shape := ⟨2, ![512, 5120]⟩
abbrev S512x1792 : Shape := ⟨2, ![512, 1792]⟩
abbrev S512x1 : Shape := ⟨2, ![512, 1]⟩
abbrev S5120x1792 : Shape := ⟨2, ![5120, 1792]⟩
abbrev S512x128 : Shape := ⟨2, ![512, 128]⟩
abbrev S128x896 : Shape := ⟨2, ![128, 896]⟩
abbrev S1x896 : Shape := ⟨2, ![1, 896]⟩
abbrev S512 : Shape := ⟨1, ![512]⟩
abbrev S5120x256 : Shape := ⟨2, ![5120, 256]⟩
abbrev S512x256 : Shape := ⟨2, ![512, 256]⟩
abbrev S1x256 : Shape := ⟨2, ![1, 256]⟩

abbrev nBuf : Space → Nat
  | .hbm => 10
  | .vmem => 17
  | .smem => 0
  | _ => 0

abbrev bufTy : (tb : Table) → Fin (tcTables nBuf tb) → BufTy
  | .hbm, ⟨0, _⟩ => ⟨S3x8192x5120, .bf16⟩
  | .hbm, ⟨1, _⟩ => ⟨S5120x896, .i8⟩
  | .hbm, ⟨2, _⟩ => ⟨S40x1792, .f32⟩
  | .hbm, ⟨3, _⟩ => ⟨S40x1792, .i8⟩
  | .hbm, ⟨4, _⟩ => ⟨S1792, .f32⟩
  | .hbm, ⟨5, _⟩ => ⟨S24576x5120, .bf16⟩
  | .hbm, ⟨6, _⟩ => ⟨S1x1792, .f32⟩
  | .hbm, ⟨7, _⟩ => ⟨S24576x1792, .bf16⟩
  | .hbm, ⟨8, _⟩ => ⟨S24576x5120, .fp8e4m3⟩
  | .hbm, ⟨9, _⟩ => ⟨S24576x1, .f32⟩
  | .local _ .vmem, ⟨0, _⟩ => ⟨S512x5120, .bf16⟩
  | .local _ .vmem, ⟨1, _⟩ => ⟨S512x5120, .bf16⟩
  | .local _ .vmem, ⟨2, _⟩ => ⟨S5120x896, .i8⟩
  | .local _ .vmem, ⟨3, _⟩ => ⟨S40x1792, .f32⟩
  | .local _ .vmem, ⟨4, _⟩ => ⟨S40x1792, .i8⟩
  | .local _ .vmem, ⟨5, _⟩ => ⟨S1x1792, .f32⟩
  | .local _ .vmem, ⟨6, _⟩ => ⟨S512x1792, .bf16⟩
  | .local _ .vmem, ⟨7, _⟩ => ⟨S512x1792, .bf16⟩
  | .local _ .vmem, ⟨8, _⟩ => ⟨S512x5120, .fp8e4m3⟩
  | .local _ .vmem, ⟨9, _⟩ => ⟨S512x5120, .fp8e4m3⟩
  | .local _ .vmem, ⟨10, _⟩ => ⟨S512x1, .f32⟩
  | .local _ .vmem, ⟨11, _⟩ => ⟨S512x1, .f32⟩
  | .local _ .vmem, ⟨12, _⟩ => ⟨S5120x1792, .bf16⟩
  | .local _ .vmem, ⟨13, _⟩ => ⟨S512x5120, .bf16⟩
  | .local _ .vmem, ⟨14, _⟩ => ⟨S512x5120, .bf16⟩
  | .local _ .vmem, ⟨15, _⟩ => ⟨S512x128, .f32⟩
  | .local _ .vmem, ⟨16, _⟩ => ⟨S512x128, .f32⟩
  | _, _ => ⟨S3x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![49], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x896 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x1792 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S3x8192x5120 : Shape := ⟨3, ![3, 8192, 5120]⟩
abbrev S5120x896 : Shape := ⟨2, ![5120, 896]⟩
abbrev S40x1792 : Shape := ⟨2, ![40, 1792]⟩
abbrev S1792 : Shape := ⟨1, ![1792]⟩
abbrev S24576x1792 : Shape := ⟨2, ![24576, 1792]⟩
abbrev S24576x5120 : Shape := ⟨2, ![24576, 5120]⟩
abbrev S24576x1 : Shape := ⟨2, ![24576, 1]⟩
abbrev S24576 : Shape := ⟨1, ![24576]⟩
abbrev S1x253 : Shape := ⟨2, ![1, 253]⟩
abbrev S24576x253 : Shape := ⟨2, ![24576, 253]⟩
abbrev S40x896 : Shape := ⟨2, ![40, 896]⟩
abbrev S40x1x896 : Shape := ⟨3, ![40, 1, 896]⟩
abbrev S40x128x896 : Shape := ⟨3, ![40, 128, 896]⟩
abbrev S24576x896 : Shape := ⟨2, ![24576, 896]⟩
abbrev S1x1792 : Shape := ⟨2, ![1, 1792]⟩

abbrev nBuf : Space → Nat
  | .hbm => 8
  | .vmem => 8
  | .smem => 0
  | _ => 0

abbrev bufTy : (tb : Table) → Fin (tcTables nBuf tb) → BufTy
  | .hbm, ⟨0, _⟩ => ⟨S3x8192x5120, .bf16⟩
  | .hbm, ⟨1, _⟩ => ⟨S5120x896, .i8⟩
  | .hbm, ⟨2, _⟩ => ⟨S40x1792, .f32⟩
  | .hbm, ⟨3, _⟩ => ⟨S40x1792, .i8⟩
  | .hbm, ⟨4, _⟩ => ⟨S1792, .f32⟩
  | .hbm, ⟨5, _⟩ => ⟨S24576x1792, .bf16⟩
  | .hbm, ⟨6, _⟩ => ⟨S24576x5120, .fp8e4m3⟩
  | .hbm, ⟨7, _⟩ => ⟨S24576x1, .f32⟩
  | .local _ .vmem, ⟨0, _⟩ => ⟨S3x8192x5120, .bf16⟩
  | .local _ .vmem, ⟨1, _⟩ => ⟨S5120x896, .i8⟩
  | .local _ .vmem, ⟨2, _⟩ => ⟨S40x1792, .f32⟩
  | .local _ .vmem, ⟨3, _⟩ => ⟨S40x1792, .i8⟩
  | .local _ .vmem, ⟨4, _⟩ => ⟨S1792, .f32⟩
  | .local _ .vmem, ⟨5, _⟩ => ⟨S24576x1792, .bf16⟩
  | .local _ .vmem, ⟨6, _⟩ => ⟨S24576x5120, .fp8e4m3⟩
  | .local _ .vmem, ⟨7, _⟩ => ⟨S24576x1, .f32⟩
  | _, _ => ⟨S3x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3x8192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x896 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x1792 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.BlockMatmul.lean ====
/-
  What one block of the kernel multiplies: the weights the first point dequantises, entry by entry, and the product of a
  block of codes with them, scaled by row and by column. The kernel stores both piece by piece; each piece holds its part
  of the whole.
-/
module

public import proofs.«01_k».proof.Proof.Gen.KernelIdeal.Skeleton
public import Idealize.ShloMosaic.Lib.Pointwise
public import Idealize.ShloMosaic.Lib.Pipeline.Value

@[expose] public section

noncomputable section

open Idealize.ShloMosaic Idealize.ShloMosaic.TcCoe Idealize.ShloMosaic.Tactic Idealize.ShloMosaic.Pointwise

namespace Cert.Block

open Cert.KernelIdeal Cert.KernelIdeal.Gen

/-- The number a packed byte holds in its low (`hi = false`) or high (`hi = true`) four bits, less the zero point, times
    the scale. -/
def weight (hi : Bool) (p z : BitVec 8) (s : EReal) : EReal :=
  (FloatOps.sitofp (F := Ideal) .f32 (if hi then IntOp.shrsi .vector (BitVec.setWidth 32 p) 4#32
      else IntOp.andi (BitVec.setWidth 32 p) 15#32) - FloatOps.sitofp (F := Ideal) .f32 (BitVec.setWidth 32 z)) * s

/-- Entry (row `k`, column `n`) of the dequantised weights: columns below 896 are the low halves of the packed bytes, the
    others the high halves; the zero point and the scale are those of the row's group of 128. -/
def wAt (p : Vec Ideal S5120x896 .i8) (s : Vec Ideal S40x1792 .f32) (z : Vec Ideal S40x1792 .i8) (k : Fin 5120)
    (n : Fin 1792) : EReal :=
  weight (decide (896 ≤ n.val)) (p (ix2 k ⟨n.val % 896, Nat.mod_lt _ (by decide)⟩))
    (z (ix2 ⟨k.val / 128, by omega⟩ n)) (s (ix2 ⟨k.val / 128, by omega⟩ n))

/-- The dequantised weights. -/
def wOf (p : Vec Ideal S5120x896 .i8) (s : Vec Ideal S40x1792 .f32) (z : Vec Ideal S40x1792 .i8) :
    Vec Ideal S5120x1792 .bf16 := fun j => wAt p s z (j 0) (j 1)

/-- Entry (row `r`, column `n`) of a block of the product. -/
def yAt (xb : Vec Ideal S512x5120 .bf16) (w : Vec Ideal S5120x1792 .bf16) (xs : Vec Ideal S512x128 .f32)
    (ws : Vec Ideal S1x1792 .f32) (r : Fin 512) (n : Fin 1792) : EReal :=
  ((∑ k : Fin 5120, xb (ix2 r k) * w (ix2 k n)) * xs (ix2 r ⟨n.val % 128, Nat.mod_lt _ (by decide)⟩)) * ws (ix2 0 n)

/-- A block of the product. -/
def yOf (xb : Vec Ideal S512x5120 .bf16) (w : Vec Ideal S5120x1792 .bf16) (xs : Vec Ideal S512x128 .f32)
    (ws : Vec Ideal S1x1792 .f32) : Vec Ideal S512x1792 .bf16 := fun j => yAt xb w xs ws (j 0) (j 1)

/-- Offsets of zero along both axes. -/
theorem zeros2 : (![0, 0] : Fin 2 → ℕ) = fun _ => 0 := by funext a; fin_cases a <;> rfl

/-- A load of a whole block of activations reads it. -/
theorem ld_block (X : Vec Ideal S512x5120 .bf16) (inb) :
    View.ld X (Rect.unit (s := S512x5120) ![0, 0] ![512, 5120] inb) = X := View.ld_unit_zero (S := S512x5120) zeros2 inb X

/-- A load of all lanes of the scales reads them. -/
theorem ld_lanes (X : Vec Ideal S512x128 .f32) (inb) :
    View.ld X (Rect.unit (s := S512x128) ![0, 0] ![512, 128] inb) = X := View.ld_unit_zero (S := S512x128) zeros2 inb X

/-- A unit rectangle of a matrix places its index at the offsets. -/
theorem unit_emb {R C r c o1 o2 : ℕ} (inb : ∀ a, (![o1, o2] : Fin 2 → ℕ) a + (![r, c] : Fin 2 → ℕ) a ≤ (⟨2, ![R, C]⟩ : Shape).size a)
    (i : Fin r) (j : Fin c) (hi : o1 + i.val < R) (hj : o2 + j.val < C) :
    (Rect.unit (s := (⟨2, ![R, C]⟩ : Shape)) ![o1, o2] ![r, c] inb).emb (ix2 i j) = ix2 ⟨o1 + i.val, hi⟩ ⟨o2 + j.val, hj⟩ := by
  funext a
  apply Fin.ext
  match a with
  | ⟨0, _⟩ => exact congrArg (o1 + ·) (Nat.one_mul i.val)
  | ⟨1, _⟩ => exact congrArg (o2 + ·) (Nat.one_mul j.val)

/-- A load of a unit rectangle of a matrix reads it at the offsets. -/
theorem unit_ld {R C r c o1 o2 : ℕ} {e : EltTy} (X : (⟨2, ![R, C]⟩ : Shape).Idx → Elt Ideal e)
    (inb : ∀ a, (![o1, o2] : Fin 2 → ℕ) a + (![r, c] : Fin 2 → ℕ) a ≤ (⟨2, ![R, C]⟩ : Shape).size a)
    (i : Fin r) (j : Fin c) (hi : o1 + i.val < R) (hj : o2 + j.val < C) :
    View.ld X (Rect.unit (s := (⟨2, ![R, C]⟩ : Shape)) ![o1, o2] ![r, c] inb) (ix2 i j) = X (ix2 ⟨o1 + i.val, hi⟩ ⟨o2 + j.val, hj⟩) :=
  congrArg X (unit_emb inb i j hi hj)

/-- The low half of group `g`, as the kernel stores it, is its part of the dequantised weights. -/
theorem lo_piece (p : Vec Ideal S5120x896 .i8) (s : Vec Ideal S40x1792 .f32) (z : Vec Ideal S40x1792 .i8) (o g : ℕ) (h : o = 128 * g)
    (i1 i2 i3 i4) (x : (⟨2, ![128, 896]⟩ : Shape).Idx) :
    k0_pay6 (View.ld p (Rect.unit (s := S5120x896) ![o, 0] ![128, 896] i1)) (View.ld z (Rect.unit (s := S40x1792) ![g, 0] ![1, 896] i2))
      (View.ld s (Rect.unit (s := S40x1792) ![g, 0] ![1, 896] i3)) x
      = wOf p s z ((Rect.unit (s := S5120x1792) ![o, 0] ![128, 896] i4).emb x) := by
  subst h
  obtain ⟨r, n, rfl⟩ : ∃ (r : Fin 128) (n : Fin 896), x = ix2 r n := ⟨x 0, x 1, by funext a; fin_cases a <;> rfl⟩
  have hg : g < 40 := by have := i2 0; simp at this; omega
  have e : k0_pay6 (View.ld p (Rect.unit (s := S5120x896) ![128 * g, 0] ![128, 896] i1)) (View.ld z (Rect.unit (s := S40x1792) ![g, 0] ![1, 896] i2))
      (View.ld s (Rect.unit (s := S40x1792) ![g, 0] ![1, 896] i3)) (ix2 r n)
      = weight false (View.ld p (Rect.unit (s := S5120x896) ![128 * g, 0] ![128, 896] i1) (ix2 r n))
        (View.ld z (Rect.unit (s := S40x1792) ![g, 0] ![1, 896] i2) (ix2 0 n)) (View.ld s (Rect.unit (s := S40x1792) ![g, 0] ![1, 896] i3) (ix2 0 n)) := by
    generalize View.ld p _ = P
    generalize View.ld z _ = Z
    generalize View.ld s _ = S
    unfold weight
    pointwise [k0_pay6, k0_pay5]
    rfl
  rw [e, unit_ld (R := 5120) (C := 896) p i1 r n (by omega) (by omega), unit_ld (R := 40) (C := 1792) z i2 0 n (by simpa using hg) (by omega),
    unit_ld (R := 40) (C := 1792) s i3 0 n (by simpa using hg) (by omega), unit_emb (R := 5120) (C := 1792) i4 r n (by omega) (by omega)]
  show _ = wAt p s z ⟨128 * g + r.val, by omega⟩ ⟨0 + n.val, by omega⟩
  have h1 : (decide (896 ≤ 0 + n.val)) = false := by simp
  have h2 : (⟨(0 + n.val) % 896, Nat.mod_lt _ (by decide)⟩ : Fin 896) = ⟨0 + n.val, by omega⟩ := Fin.ext (Nat.mod_eq_of_lt (by omega))
  have h3 : (⟨(128 * g + r.val) / 128, by omega⟩ : Fin 40) = ⟨g + (0 : Fin 1).val, by simpa using hg⟩ := Fin.ext (by show (128 * g + r.val) / 128 = g + 0; omega)
  unfold wAt
  rw [h1, h2, h3]

/-- The high half of group `g`, as the kernel stores it, is its part of the dequantised weights. -/
theorem hi_piece (p : Vec Ideal S5120x896 .i8) (s : Vec Ideal S40x1792 .f32) (z : Vec Ideal S40x1792 .i8) (o g : ℕ) (h : o = 128 * g)
    (i1 i2 i3 i4) (x : (⟨2, ![128, 896]⟩ : Shape).Idx) :
    k0_pay7 (View.ld p (Rect.unit (s := S5120x896) ![o, 0] ![128, 896] i1)) (View.ld z (Rect.unit (s := S40x1792) ![g, 896] ![1, 896] i2))
      (View.ld s (Rect.unit (s := S40x1792) ![g, 896] ![1, 896] i3)) x
      = wOf p s z ((Rect.unit (s := S5120x1792) ![o, 896] ![128, 896] i4).emb x) := by
  subst h
  obtain ⟨r, n, rfl⟩ : ∃ (r : Fin 128) (n : Fin 896), x = ix2 r n := ⟨x 0, x 1, by funext a; fin_cases a <;> rfl⟩
  have hg : g < 40 := by have := i2 0; simp at this; omega
  have e : k0_pay7 (View.ld p (Rect.unit (s := S5120x896) ![128 * g, 0] ![128, 896] i1)) (View.ld z (Rect.unit (s := S40x1792) ![g, 896] ![1, 896] i2))
      (View.ld s (Rect.unit (s := S40x1792) ![g, 896] ![1, 896] i3)) (ix2 r n)
      = weight true (View.ld p (Rect.unit (s := S5120x896) ![128 * g, 0] ![128, 896] i1) (ix2 r n))
        (View.ld z (Rect.unit (s := S40x1792) ![g, 896] ![1, 896] i2) (ix2 0 n)) (View.ld s (Rect.unit (s := S40x1792) ![g, 896] ![1, 896] i3) (ix2 0 n)) := by
    generalize View.ld p _ = P
    generalize View.ld z _ = Z
    generalize View.ld s _ = S
    unfold weight
    pointwise [k0_pay7, k0_pay5]
  rw [e, unit_ld (R := 5120) (C := 896) p i1 r n (by omega) (by omega), unit_ld (R := 40) (C := 1792) z i2 0 n (by simpa using hg) (by omega),
    unit_ld (R := 40) (C := 1792) s i3 0 n (by simpa using hg) (by omega), unit_emb (R := 5120) (C := 1792) i4 r n (by omega) (by omega)]
  show _ = wAt p s z ⟨128 * g + r.val, by omega⟩ ⟨896 + n.val, by omega⟩
  have h1 : (decide (896 ≤ 896 + n.val)) = true := by simp
  have h2 : (⟨(896 + n.val) % 896, Nat.mod_lt _ (by decide)⟩ : Fin 896) = ⟨0 + n.val, by omega⟩ := Fin.ext (by show (896 + n.val) % 896 = 0 + n.val; omega)
  have h3 : (⟨(128 * g + r.val) / 128, by omega⟩ : Fin 40) = ⟨g + (0 : Fin 1).val, by simpa using hg⟩ := Fin.ext (by show (128 * g + r.val) / 128 = g + 0; omega)
  unfold wAt
  rw [h1, h2, h3]

/-- The 256 columns of the product from column `o` on, as the kernel stores them, are their part of the block. -/
theorem y_piece (xb : Vec Ideal S512x5120 .bf16) (w : Vec Ideal S5120x1792 .bf16) (xs : Vec Ideal S512x128 .f32)
    (ws : Vec Ideal S1x1792 .f32) (o : ℕ) (ho : o % 256 = 0) (i1 i2 i3) (x : (⟨2, ![512, 256]⟩ : Shape).Idx) :
    k0_pay202 xb (View.ld w (Rect.unit (s := S5120x1792) ![0, o] ![5120, 256] i1)) xs
      (View.ld ws (Rect.unit (s := S1x1792) ![0, o] ![1, 256] i2)) x
      = yOf xb w xs ws ((Rect.unit (s := S512x1792) ![0, o] ![512, 256] i3).emb x) := by
  obtain ⟨r, n, rfl⟩ : ∃ (r : Fin 512) (n : Fin 256), x = ix2 r n := ⟨x 0, x 1, by funext a; fin_cases a <;> rfl⟩
  have hb : o + 256 ≤ 1792 := by simpa using i3 1
  have e (W : Vec Ideal S5120x256 .bf16) (WS : Vec Ideal S1x256 .f32) : k0_pay202 xb W xs WS (ix2 r n)
      = ((∑ k : Fin 5120, xb (ix2 r k) * W (ix2 k n)) * xs (ix2 r ⟨n.val % 128, Nat.mod_lt _ (by decide)⟩)) * WS (ix2 0 n) := by
    pointwise [k0_pay202, dot_S512x5120_S5120x256_S512x256_1_0_0_1_n_n]
    by_cases hn : n.val < 128
    · rw [dif_pos hn]
      have : (⟨n.val % 128, Nat.mod_lt _ (by decide)⟩ : Fin 128) = ⟨n.val, hn⟩ := Fin.ext (Nat.mod_eq_of_lt hn)
      rw [this]
    · rw [dif_neg hn]
      have : (⟨n.val % 128, Nat.mod_lt _ (by decide)⟩ : Fin 128) = ⟨n.val - 128, by omega⟩ := Fin.ext (by show n.val % 128 = n.val - 128; omega)
      rw [this]
  have hw (k : Fin 5120) : View.ld w (Rect.unit (s := S5120x1792) ![0, o] ![5120, 256] i1) (ix2 k n) = w (ix2 k ⟨o + n.val, by omega⟩) := by
    rw [unit_ld (R := 5120) (C := 1792) w i1 k n (by omega) (by omega)]
    refine congrArg (fun k' => w (ix2 k' _)) (Fin.ext (Nat.zero_add _))
  rw [e, unit_ld (R := 1) (C := 1792) ws i2 0 n (by decide) (by omega), unit_emb (R := 512) (C := 1792) i3 r n (by omega) (by omega)]
  simp only [hw]
  show _ = yAt xb w xs ws ⟨0 + r.val, by omega⟩ ⟨o + n.val, by omega⟩
  have h1 : (⟨0 + r.val, by omega⟩ : Fin 512) = r := Fin.ext (Nat.zero_add _)
  have h2 : (⟨(o + n.val) % 128, Nat.mod_lt _ (by decide)⟩ : Fin 128) = ⟨n.val % 128, Nat.mod_lt _ (by decide)⟩ :=
    Fin.ext (by show (o + n.val) % 128 = n.val % 128; omega)
  unfold yAt
  rw [h1, h2]
  rfl

end Cert.Block
-- ==== Proof.Words.lean ====
/-
  The single-precision words that the kernel and the reference compare with and scale by, as the extended reals they
  denote: the powers of two whose fraction is zero (`power`), and the few constants of the two programs.
-/
module

public import Idealize.ShloMosaic.Lib.Pointwise

@[expose] public section

noncomputable section

open Idealize.ShloMosaic

namespace Cert.Words

/-- What the single-precision word denotes whose exponent field is `n` and whose sign and fraction are zero. -/
def power (n : ℕ) : EReal := Ideal.ofBits .f32 (BitVec.ofNat 32 n <<< 23)

theorem field_toNat (n : ℕ) (h : n < 256) : (BitVec.ofNat 32 n <<< 23).toNat = n * 2 ^ 23 := by
  rw [BitVec.toNat_shiftLeft, BitVec.toNat_ofNat, Nat.shiftLeft_eq]
  omega

theorem field_sign (n : ℕ) (h : n < 256) : (BitVec.ofNat 32 n <<< 23).extractLsb' 31 1 = 0#1 := by
  apply BitVec.eq_of_toNat_eq
  rw [BitVec.extractLsb'_toNat, field_toNat n h, Nat.shiftRight_eq_div_pow]
  simp; omega

theorem field_exponent (n : ℕ) (h : n < 256) : ((BitVec.ofNat 32 n <<< 23).extractLsb' 23 8).toNat = n := by
  rw [BitVec.extractLsb'_toNat, field_toNat n h, Nat.shiftRight_eq_div_pow]
  omega

theorem field_fraction (n : ℕ) (h : n < 256) : ((BitVec.ofNat 32 n <<< 23).extractLsb' 0 23).toNat = 0 := by
  rw [BitVec.extractLsb'_toNat, field_toNat n h, Nat.shiftRight_eq_div_pow]
  omega

/-- The word with exponent field zero is zero. -/
theorem power_zero : power 0 = 0 := by
  simp [power, Ideal.ofBits, Ideal.ieee]

/-- The word with exponent field 255 is infinity. -/
theorem power_top : power 255 = ⊤ := by
  have hs := field_sign 255 (by decide)
  have he := field_exponent 255 (by decide)
  have hf := field_fraction 255 (by decide)
  simp only [power, Ideal.ofBits, Ideal.ieee, hs, he, hf]
  simp

/-- In between, it is the power of two whose exponent is the field less the bias 127. -/
theorem power_eq (n : ℕ) (h1 : 1 ≤ n) (h2 : n ≤ 254) : power n = (((2 : ℝ) ^ ((n : ℤ) - 127) : ℝ) : EReal) := by
  have hs := field_sign n (by omega)
  have he := field_exponent n (by omega)
  have hf := field_fraction n (by omega)
  have hz : (0#1 == 1#1) = false := by decide
  simp only [power, Ideal.ofBits, Ideal.ieee, hs, he, hf, hz]
  rw [if_neg (by omega), if_neg (by omega)]
  refine congrArg (fun r : ℝ => (r : EReal)) ?_
  have h23 : ((2 ^ 23 + 0 : ℕ) : ℝ) = (2 : ℝ) ^ (23 : ℤ) := by norm_num
  rw [h23, if_neg Bool.false_ne_true, one_mul, ← zpow_add₀ (by norm_num : (2 : ℝ) ≠ 0)]
  refine congrArg (fun k : ℤ => (2 : ℝ) ^ k) ?_
  have h7 : (2 : ℤ) ^ (8 - 1) = 128 := by norm_num
  rw [h7]
  omega

/-- The quantiser's threshold for a scale of one: the least normal number, two to the minus 126. -/
theorem least_normal : Ideal.ofBits .f32 0x00800000#32 = power 1 := rfl

theorem one_word : Ideal.ofBits .f32 0x3F800000#32 = 1 := Ideal.ofBits_one_f32

/-- The reductions' neutral elements. -/
theorem neg_inf_f32 : Ideal.ofBits .f32 0xFF800000#32 = ⊥ := by simp [Ideal.ofBits, Ideal.ieee]
theorem neg_inf_bf16 : Ideal.ofBits .bf16 0xFF80#16 = ⊥ := by simp [Ideal.ofBits, Ideal.ieee]
theorem pos_inf_f32 : Ideal.ofBits .f32 0x7F800000#32 = ⊤ := by simp [Ideal.ofBits, Ideal.ieee]

/-- The reciprocal of 448, as the single-precision constant of both programs: positive and below two to the minus 8. -/
theorem recip_word : ∃ r : ℝ, Ideal.ofBits .f32 0x3B124925#32 = (r : EReal) ∧ 0 ≤ r ∧ r < (2 : ℝ) ^ (-8 : ℤ) := by
  refine ⟨9586981 * (2 : ℝ) ^ (-32 : ℤ), ?_, by positivity, ?_⟩
  · simp [Ideal.ofBits, Ideal.ieee, -EReal.coe_mul]
  · rw [zpow_neg, zpow_neg]; norm_num

/-- The greatest finite bfloat16 value is below two to the 128. -/
theorem max_word : ∃ r : ℝ, Ideal.ofBits .bf16 0x7F7F#16 = (r : EReal) ∧ 0 ≤ r ∧ r ≤ (2 : ℝ) ^ (128 : ℤ) := by
  refine ⟨255 * (2 : ℝ) ^ (120 : ℤ), ?_, by positivity, ?_⟩
  · simp [Ideal.ofBits, Ideal.ieee, -EReal.coe_mul]
  · norm_num

end Cert.Words
-- ==== Proof.Search.lean ====
/-
  The exponent of a number, found by eight comparisons (the kernel's way) and as the least power of two above it (the
  reference's way): the two agree, and dividing by that power is multiplying by the power of the mirrored exponent.
-/
module

public import proofs.«01_k».proof.Proof.Words

@[expose] public section

noncomputable section

open Idealize.ShloMosaic

namespace Cert.Words

/-- One comparison of the search: take the bit `b` if the power with it is still at most `v`. -/
def step (v : EReal) (n b : ℕ) : ℕ := if power (n + b) ≤ v then n + b else n

/-- The exponent field of `v`: the search over the eight bits, the highest first. -/
def field (v : EReal) : ℕ := step v (step v (step v (step v (step v (step v (step v (step v 0 128) 64) 32) 16) 8) 4) 2) 1

/-- The field of the scale for `v`: one above the exponent field of `v`, or that of one when `v` is below the least
    normal number. -/
def scaleField (v : EReal) : ℕ := if field v = 0 then 127 else field v + 1

/-- The powers grow with the field. -/
theorem power_mono {a b : ℕ} (h : a ≤ b) (hb : b ≤ 254) : power a ≤ power b := by
  rcases Nat.eq_zero_or_pos b with h0 | h0
  · obtain rfl : a = b := by omega
    exact le_rfl
  rw [power_eq b h0 hb]
  rcases Nat.eq_zero_or_pos a with ha | ha
  · rw [ha, power_zero]; exact EReal.coe_nonneg.mpr (by positivity)
  · rw [power_eq a ha (h.trans hb), EReal.coe_le_coe_iff]
    exact zpow_le_zpow_right₀ (by norm_num) (by omega)

/-- What the search keeps true: `v` lies between the power reached and the one a window `w` above it. -/
def Between (v : EReal) (n w : ℕ) : Prop := power n ≤ v ∧ (v < power (n + w) ∨ n + w = 256) ∧ n + w ≤ 256

theorem between_step {v : EReal} {n w b : ℕ} (hw : w = b + b) (h : Between v n w) : Between v (step v n b) b := by
  obtain ⟨h1, h2, h3⟩ := h
  subst hw
  unfold step
  split
  · rename_i hp
    exact ⟨hp, by rw [Nat.add_assoc]; exact h2, by omega⟩
  · rename_i hp
    exact ⟨h1, .inl (not_le.mp hp), by omega⟩

/-- The search ends at the field whose power is at most `v` while the next power is above it. -/
theorem field_spec {v : EReal} (h0 : 0 ≤ v) (ht : v < power 247) :
    power (field v) ≤ v ∧ v < power (field v + 1) ∧ field v ≤ 246 := by
  have hs : Between v 0 256 := ⟨power_zero ▸ h0, .inr rfl, le_rfl⟩
  have h : Between v (field v) 1 := by
    unfold field
    exact between_step rfl <| between_step rfl <| between_step rfl <| between_step rfl <| between_step rfl <|
      between_step rfl <| between_step rfl <| between_step rfl hs
  obtain ⟨h1, h2, h3⟩ := h
  have hle : field v ≤ 246 := by
    by_contra hc
    rcases h2 with h2 | h2
    · by_cases h4 : field v ≤ 254
      · exact absurd ((power_mono (by omega : 247 ≤ field v) h4).trans h1) (not_le.mpr ht)
      · have : field v = 255 := by omega
        rw [this, power_top] at h1
        exact absurd (lt_of_lt_of_le ht le_top) (not_lt.mpr h1)
    · have : field v = 255 := by omega
      rw [this, power_top] at h1
      exact absurd (lt_of_lt_of_le ht le_top) (not_lt.mpr h1)
  exact ⟨h1, h2.resolve_right (by omega), hle⟩

theorem scaleField_bounds {v : EReal} (h0 : 0 ≤ v) (ht : v < power 247) : 2 ≤ scaleField v ∧ scaleField v ≤ 247 := by
  have := (field_spec h0 ht).2.2
  unfold scaleField
  split <;> omega

/-- The field 127 is that of one. -/
theorem power_one : power 127 = 1 := by
  rw [power_eq 127 (by decide) (by decide)]; norm_num

/-- The reference's list of powers: entry `k` is two to the `k - 125`. -/
theorem power_list (k : ℕ) (hk : k < 253) : Ideal.exp2 ((((k : ℤ) - 125 : ℤ) : ℝ) : EReal) = power (k + 2) := by
  rw [power_eq (k + 2) (by omega) (by omega), Ideal.exp2_coe]
  refine congrArg (fun r : ℝ => (r : EReal)) ?_
  rw [show Real.rpow 2 (((k : ℤ) - 125 : ℤ) : ℝ) = (2 : ℝ) ^ (((k : ℤ) - 125 : ℤ) : ℝ) from rfl, Real.rpow_intCast]
  refine congrArg (fun n : ℤ => (2 : ℝ) ^ n) ?_
  push_cast; ring

/-- The least power of the reference's list above `v` is the one after the exponent field of `v`. -/
theorem least_above {v : EReal} (h0 : 0 ≤ v) (ht : v < power 247) (h1 : ¬v < power 1) :
    (Finset.univ : Finset (Fin 253)).fold min ⊤ (fun k => if v < power (k.val + 2) then power (k.val + 2) else ⊤)
      = power (scaleField v) := by
  obtain ⟨ha, hb, hc⟩ := field_spec h0 ht
  have hf : field v ≠ 0 := fun h => h1 (by rw [h] at hb; exact hb)
  rw [scaleField, if_neg hf]
  refine le_antisymm ?_ ?_
  · rw [Finset.fold_min_le]
    refine .inr ⟨⟨field v - 1, by omega⟩, Finset.mem_univ _, ?_⟩
    have e : field v - 1 + 2 = field v + 1 := by omega
    simp only [e]
    rw [if_pos hb]
  · rw [Finset.le_fold_min]
    refine ⟨le_top, fun k _ => ?_⟩
    have := k.isLt
    split
    · rename_i hk
      refine power_mono ?_ (by omega)
      by_contra hlt
      exact absurd (lt_of_lt_of_le hk ((power_mono (by omega : k.val + 2 ≤ field v) (by omega)).trans ha)) (lt_irrefl v)
    · exact le_top

/-- Below the least normal number the scale is one. -/
theorem scale_small {v : EReal} (h0 : 0 ≤ v) (ht : v < power 247) (h1 : v < power 1) : power (scaleField v) = 1 := by
  obtain ⟨ha, -, hc⟩ := field_spec h0 ht
  have hf : field v = 0 := by
    by_contra h
    exact absurd (lt_of_lt_of_le h1 ((power_mono (by omega : 1 ≤ field v) (by omega)).trans ha)) (lt_irrefl v)
  rw [scaleField, if_pos hf, power_one]

/-- THE SCALE: the reference's choice is the power whose field is the kernel's scale field. -/
theorem scale_eq {v : EReal} (h0 : 0 ≤ v) (ht : v < power 247) :
    (if v < power 1 then (1 : EReal) else
      (Finset.univ : Finset (Fin 253)).fold min ⊤ (fun k => if v < power (k.val + 2) then power (k.val + 2) else ⊤))
      = power (scaleField v) := by
  split
  · rename_i h; exact (scale_small h0 ht h).symm
  · rename_i h; exact least_above h0 ht h

/-- THE INVERSE SCALE: one over a power is the power of the mirrored field. -/
theorem div_power {n : ℕ} (h1 : 1 ≤ n) (h2 : n ≤ 253) : Ideal.div 1 (power n) = power (254 - n) := by
  rw [power_eq n h1 (by omega), power_eq (254 - n) (by omega) (by omega), Ideal.div, if_neg, one_mul, ← EReal.coe_inv]
  · refine congrArg (fun r : ℝ => (r : EReal)) ?_
    rw [← zpow_neg]
    refine congrArg (fun n : ℤ => (2 : ℝ) ^ n) ?_
    omega
  · rw [← EReal.coe_zero, EReal.coe_eq_coe_iff]; positivity

end Cert.Words
-- ==== Proof.BlockScale.lean ====
/-
  What one block of the kernel quantises to: row by row the level (the largest magnitude over 448), the field of the
  scale the search finds, the scale, its inverse, and the codes.
-/
module

public import proofs.«01_k».proof.Proof.Search
public import proofs.«01_k».proof.Proof.Gen.KernelIdeal.Skeleton
public import Idealize.ShloMosaic.Lib.Pointwise

@[expose] public section

noncomputable section

open Idealize.ShloMosaic Idealize.ShloMosaic.TcCoe Idealize.ShloMosaic.Tactic Idealize.ShloMosaic.Pointwise

/-! ## The quantiser of one row, as numbers -/

namespace Cert.Words

/-- The level of a row: its largest magnitude (not below minus infinity) times the printed 1/448. -/
def level (row : Fin 5120 → EReal) : EReal :=
  (Finset.univ.fold max (Ideal.ofBits .bf16 0xFF80#16) fun k => max (row k) (-(row k))) * Ideal.ofBits .f32 0x3B124925#32

/-- The scale of a row. -/
def scale (row : Fin 5120 → EReal) : EReal := power (scaleField (level row))

/-- Entry `k` of a row's codes: the entry times the inverse of the scale, clipped to the range of the codes. -/
def code (row : Fin 5120 → EReal) (k : Fin 5120) : EReal :=
  min (Ideal.ofBits .f32 0x43E00000#32)
    (max (Ideal.ofBits .f32 0xC3E00000#32) (row k * power (254 - scaleField (level row))))

theorem field_le (v : EReal) : field v ≤ 255 := by
  have h (n b : ℕ) : step v n b ≤ n + b := by unfold step; split <;> omega
  unfold field
  have h1 := h 0 128
  have h2 := h (step v 0 128) 64
  have h3 := h (step v (step v 0 128) 64) 32
  have h4 := h (step v (step v (step v 0 128) 64) 32) 16
  have h5 := h (step v (step v (step v (step v 0 128) 64) 32) 16) 8
  have h6 := h (step v (step v (step v (step v (step v 0 128) 64) 32) 16) 8) 4
  have h7 := h (step v (step v (step v (step v (step v (step v 0 128) 64) 32) 16) 8) 4) 2
  have h8 := h (step v (step v (step v (step v (step v (step v (step v 0 128) 64) 32) 16) 8) 4) 2) 1
  omega

end Cert.Words

namespace Cert.Block

open Cert.KernelIdeal Cert.KernelIdeal.Gen Cert.Words

/-- Row `r` of a block of activations. -/
def rowOf (x : Vec Ideal S512x5120 .bf16) (r : Fin 512) : Fin 5120 → EReal := fun k => x (ix2 r k)

/-! ## The search, for all rows of a block at once -/

/-- One comparison of the search in every row. -/
def vstep (v : FVec Ideal S512x1 .f32) (n : IVec S512x1 32) (b : BitVec 32) : IVec S512x1 32 :=
  select (cmpf .oge v (bitcastToFloat .f32 (shli (addi n (broadcast S512x1 b)) (broadcast S512x1 23#32))))
    (addi n (broadcast S512x1 b)) n

/-- The scale's field from the exponent field in every row. -/
def vfield (n : IVec S512x1 32) : IVec S512x1 32 :=
  select (cmpi .eq n (broadcast S512x1 0#32)) (broadcast S512x1 127#32) (addi n (broadcast S512x1 1#32))

theorem pay195_eq (x : Vec Ideal S512x5120 .bf16) :
    k0_pay195 x = vstep (k0_pay194 x) (vstep (k0_pay194 x) (vstep (k0_pay194 x) (vstep (k0_pay194 x)
      (vstep (k0_pay194 x) (broadcast S512x1 0#32) 128#32) 64#32) 32#32) 16#32) 8#32 := rfl

theorem pay196_eq (v : FVec Ideal S512x1 .f32) (n : IVec S512x1 32) :
    k0_pay196 v n 4#32 = vfield (vstep v (vstep v (vstep v n 4#32) 2#32) 1#32) := rfl

theorem vstep_apply (v : FVec Ideal S512x1 .f32) (n : IVec S512x1 32) (b m : ℕ) (r : Fin 512)
    (h : n (ix2 r (0 : Fin 1)) = BitVec.ofNat 32 m) :
    vstep v n (BitVec.ofNat 32 b) (ix2 r (0 : Fin 1)) = BitVec.ofNat 32 (step (v (ix2 r (0 : Fin 1))) m b) := by
  have e : IntOp.addi (BitVec.ofNat 32 m) (BitVec.ofNat 32 b) = BitVec.ofNat 32 (m + b) := (BitVec.ofNat_add ..).symm
  have s (w : BitVec 32) : IntOp.shli .vector w 23#32 = w <<< 23 := rfl
  pointwise [vstep]
  rw [h, e, s]
  unfold step power
  split <;> rfl

theorem vfield_apply (n : IVec S512x1 32) (m : ℕ) (hm : m ≤ 255) (r : Fin 512)
    (h : n (ix2 r (0 : Fin 1)) = BitVec.ofNat 32 m) :
    vfield n (ix2 r (0 : Fin 1)) = BitVec.ofNat 32 (if m = 0 then 127 else m + 1) := by
  have e : IntOp.addi (BitVec.ofNat 32 m) 1#32 = BitVec.ofNat 32 (m + 1) := (BitVec.ofNat_add ..).symm
  pointwise [vfield]
  rw [h, e]
  by_cases h0 : m = 0
  · subst h0; rfl
  · rw [if_neg h0]
    have hne : BitVec.ofNat 32 m ≠ 0#32 := by
      intro hc
      have := congrArg BitVec.toNat hc
      rw [BitVec.toNat_ofNat, BitVec.toNat_ofNat] at this
      omega
    have hc : IntOp.cmpi .eq (BitVec.ofNat 32 m) 0#32 = 0#1 := by
      show BitVec.ofBool (BitVec.ofNat 32 m == 0#32) = 0#1
      rw [beq_eq_false_iff_ne.mpr hne]; rfl
    rw [hc]; rfl

/-- The largest magnitude along the rows of any block, at a row. -/
theorem max_rows {n0 n1 : ℕ} {t : Shape} (h : (⟨2, ![n0, n1]⟩ : Shape).Reduces [1] t)
    (x : FVec Ideal (⟨2, ![n0, n1]⟩ : Shape) .bf16) (j : t.Idx) (r : Fin n0) (hr : (j ⟨0, h.lt_r2_a1_0⟩).val = r.val) :
    multiReduction .maximumf [1] t (absf x) 0xFF80#16 h (.inr rfl) rfl j
      = Finset.univ.fold max (Ideal.ofBits .bf16 0xFF80#16) fun k : Fin n1 => max (x (ix2 r k)) (-(x (ix2 r k))) := by
  obtain ⟨r, hlt⟩ := r
  subst hr
  refine (multiReduction_maximumf_eq_fold (F := Ideal) (absf x) 0xFF80#16 h (.inr rfl) rfl j).trans ?_
  exact Shape.Reduces.fold_fiber_r2_a1 h j _ _ _

/-- The largest magnitude of every row. -/
def peak (x : FVec Ideal S512x5120 .bf16) : FVec Ideal S512 .bf16 :=
  multiReduction .maximumf [1] S512 (absf x) 0xFF80#16 reduces_S512x5120_S512 (.inr rfl) rfl

theorem peak_apply (x : FVec Ideal S512x5120 .bf16) (r : Fin 512) :
    peak x (ix1 r) = Finset.univ.fold max (Ideal.ofBits .bf16 0xFF80#16) fun k : Fin 5120 => max (x (ix2 r k)) (-(x (ix2 r k))) :=
  max_rows (n0 := 512) (n1 := 5120) reduces_S512x5120_S512 x (ix1 r) r rfl

theorem pay193_eq (x : Vec Ideal S512x5120 .bf16) : k0_pay193 x = x := shapeCast_self _ _

theorem pay194_eq (x : Vec Ideal S512x5120 .bf16) :
    k0_pay194 x = mulf (extf .f32 (shapeCast S512x1 (peak (k0_pay193 x)) shapeCasts_S512_S512x1) bitsLt_bf16_f32)
      (broadcast S512x1 (Scalar.ofBits .f32 0x3B124925#32)) := rfl

/-- The level of every row of the block. -/
theorem level_apply (x : Vec Ideal S512x5120 .bf16) (r : Fin 512) :
    k0_pay194 x (ix2 r (0 : Fin 1)) = level (rowOf x r) := by
  have e (p : FVec Ideal S512 .bf16) : mulf (extf .f32 (shapeCast S512x1 p shapeCasts_S512_S512x1) bitsLt_bf16_f32)
      (broadcast S512x1 (Scalar.ofBits .f32 0x3B124925#32)) (ix2 r (0 : Fin 1))
        = p (ix1 r) * Ideal.ofBits .f32 0x3B124925#32 := by pointwise
  rw [pay194_eq, pay193_eq, e, peak_apply]
  simp only [level, rowOf]

/-- The word of the scale's field in every row of the block. -/
theorem field_apply (x : Vec Ideal S512x5120 .bf16) (r : Fin 512) :
    k0_pay196 (k0_pay194 x) (k0_pay195 x) 4#32 (ix2 r (0 : Fin 1))
      = BitVec.ofNat 32 (scaleField (level (rowOf x r))) := by
  rw [pay196_eq, pay195_eq, ← level_apply]
  refine vfield_apply _ _ (field_le _) r ?_
  unfold field
  refine vstep_apply _ _ _ _ _ <| vstep_apply _ _ _ _ _ <| vstep_apply _ _ _ _ _ <| vstep_apply _ _ _ _ _ <|
    vstep_apply _ _ _ _ _ <| vstep_apply _ _ _ _ _ <| vstep_apply _ _ _ _ _ <| vstep_apply _ _ _ _ _ ?_
  rfl

/-- The scale of every row of the block. -/
theorem scale_apply (x : Vec Ideal S512x5120 .bf16) (r : Fin 512) (c : Fin 1) :
    k0_pay197 (k0_pay194 x) (k0_pay195 x) 4#32 (ix2 r c) = scale (rowOf x r) := by
  obtain rfl : c = 0 := Subsingleton.elim _ _
  have s (w : BitVec 32) : IntOp.shli .vector w 23#32 = w <<< 23 := rfl
  pointwise [k0_pay197]
  rw [field_apply, s]
  rfl

/-- The scale of every row, repeated over the lanes the kernel keeps it in. -/
theorem lanes_apply (x : Vec Ideal S512x5120 .bf16) (r : Fin 512) (c : Fin 128) :
    k0_pay198 (k0_pay194 x) (k0_pay195 x) 4#32 (ix2 r c) = scale (rowOf x r) := by
  pointwise [k0_pay198]
  exact scale_apply x r 0

/-- The inverse of the scale of every row. -/
theorem inverse_apply (x : Vec Ideal S512x5120 .bf16) (r : Fin 512) (k : Fin 5120)
    (hs : scaleField (level (rowOf x r)) ≤ 254) :
    k0_pay199 (k0_pay194 x) (k0_pay195 x) 4#32 (ix2 r k) = power (254 - scaleField (level (rowOf x r))) := by
  have s (w : BitVec 32) : IntOp.shli .vector w 23#32 = w <<< 23 := rfl
  pointwise [k0_pay199]
  rw [field_apply, s]
  have e : IntOp.subi 254#32 (BitVec.ofNat 32 (scaleField (level (rowOf x r))))
      = BitVec.ofNat 32 (254 - scaleField (level (rowOf x r))) := by
    generalize scaleField (level (rowOf x r)) = m at hs
    show 254#32 - BitVec.ofNat 32 m = _
    apply BitVec.eq_of_toNat_eq
    rw [BitVec.toNat_sub, BitVec.toNat_ofNat, BitVec.toNat_ofNat, BitVec.toNat_ofNat]
    omega
  rw [e]
  rfl

/-- The codes of the block. -/
theorem code_apply (x : Vec Ideal S512x5120 .bf16) (r : Fin 512) (k : Fin 5120)
    (hs : scaleField (level (rowOf x r)) ≤ 254) :
    k0_pay200 (k0_pay193 x) (k0_pay199 (k0_pay194 x) (k0_pay195 x) 4#32) (ix2 r k) = code (rowOf x r) k := by
  pointwise [k0_pay200, k0_pay193]
  rw [inverse_apply x r k hs]
  rfl

/-- The codes of the block, as the multiplication reads them. -/
theorem code_apply' (x : Vec Ideal S512x5120 .bf16) (r : Fin 512) (k : Fin 5120)
    (hs : scaleField (level (rowOf x r)) ≤ 254) :
    k0_pay201 (k0_pay193 x) (k0_pay199 (k0_pay194 x) (k0_pay195 x) 4#32) (ix2 r k) = code (rowOf x r) k := by
  pointwise [k0_pay201]
  exact code_apply x r k hs

/-- A block's codes. -/
def codesOf (x : Vec Ideal S512x5120 .bf16) : Vec Ideal S512x5120 .fp8e4m3 :=
  k0_pay200 (k0_pay193 x) (k0_pay199 (k0_pay194 x) (k0_pay195 x) 4#32)

/-- A block's codes, as the multiplication reads them. -/
def wideOf (x : Vec Ideal S512x5120 .bf16) : Vec Ideal S512x5120 .bf16 :=
  k0_pay201 (k0_pay193 x) (k0_pay199 (k0_pay194 x) (k0_pay195 x) 4#32)

/-- A block's scales. -/
def scaleOf (x : Vec Ideal S512x5120 .bf16) : Vec Ideal S512x1 .f32 := k0_pay197 (k0_pay194 x) (k0_pay195 x) 4#32

/-- A block's scales, repeated over 128 lanes. -/
def lanesOf (x : Vec Ideal S512x5120 .bf16) : Vec Ideal S512x128 .f32 := k0_pay198 (k0_pay194 x) (k0_pay195 x) 4#32

end Cert.Block
-- ==== Proof.CaseA.lean ====
/-
  What the first grid point quantises and keeps.
-/
module

public import proofs.«01_k».proof.Proof.BlockMatmul
public import proofs.«01_k».proof.Proof.BlockScale
public import proofs.«01_k».proof.Proof.Gen.KernelIdeal.Frame
public import Idealize.ShloMosaic.Lib.Tactic

@[expose] public section

set_option maxRecDepth 16384

noncomputable section

open Idealize.ShloMosaic Idealize.ShloMosaic.TcCoe Idealize.ShloMosaic.Tactic Idealize.SL.Sem

namespace Cert.Block

open Cert.KernelIdeal Cert.KernelIdeal.Gen

variable (c : Dev nD) (i : grid0.Coords)
  (a1 : Memref sig .tc .vmem S512x5120 .bf16) (h1 : a1.IsWhole)
  (a2 : Memref sig .tc .vmem S5120x896 .i8) (h2 : a2.IsWhole)
  (a3 : Memref sig .tc .vmem S40x1792 .f32) (h3 : a3.IsWhole)
  (a4 : Memref sig .tc .vmem S40x1792 .i8) (h4 : a4.IsWhole)
  (a5 : Memref sig .tc .vmem S1x1792 .f32) (h5 : a5.IsWhole)
  (a6 : Memref sig .tc .vmem S512x1792 .bf16) (h6 : a6.IsWhole)
  (a7 : Memref sig .tc .vmem S512x5120 .fp8e4m3) (h7 : a7.IsWhole)
  (a8 : Memref sig .tc .vmem S512x1 .f32) (h8 : a8.IsWhole)
  (a9 : Memref sig .tc .vmem S5120x1792 .bf16) (h9 : a9.IsWhole)
  (a10 : Memref sig .tc .vmem S512x5120 .bf16) (h10 : a10.IsWhole)
  (a11 : Memref sig .tc .vmem S512x5120 .bf16) (h11 : a11.IsWhole)
  (a12 : Memref sig .tc .vmem S512x128 .f32) (h12 : a12.IsWhole)
  (a13 : Memref sig .tc .vmem S512x128 .f32) (h13 : a13.IsWhole)
  (x0 : Vec Ideal S512x5120 .bf16) (x1 : Vec Ideal S5120x896 .i8) (x2 : Vec Ideal S40x1792 .f32) (x3 : Vec Ideal S40x1792 .i8)
  (x4 : Vec Ideal S1x1792 .f32)

/-- The first point writes the codes of its block. -/
theorem out_A_6 (hc0 : cond0_0 i) (hc1 : cond0_1 i) (hc2 : ¬cond0_2 i) :
    out0_A_6 c i a1 h1 a2 h2 a3 h3 a4 h4 a5 h5 a6 h6 a7 h7 a8 h8 a9 h9 a10 h10 a11 h11 a12 h12 a13 h13 hc0 hc1 hc2 x0 x1 x2 x3 x4 = codesOf x0 := by
  unfold out0_A_6
  rw [View.read_writes_eq_canon _ _ _ (cover0_A_6 c i a1 h1 a2 h2 a3 h3 a4 h4 a5 h5 a6 h6 a7 h7 a8 h8 a9 h9 a10 h10 a11 h11 a12 h12 a13 h13 hc0 hc1 hc2 x0 x1 x2 x3 x4)]
  unfold kernelRun0_A
  dsimp only
  sl_unfold_words
  rw [View.canon_unit_zero zeros2]
  simp only [View.readAt_eq_ld, h1.read_unread, h2.read_unread, h3.read_unread, h4.read_unread, h5.read_unread, h9.read_unread, h10.read_unread, h11.read_unread, h12.read_unread, h13.read_unread, ld_block, ld_lanes]
  rfl

/-- The first point writes the scales of its block. -/
theorem out_A_7 (hc0 : cond0_0 i) (hc1 : cond0_1 i) (hc2 : ¬cond0_2 i) :
    out0_A_7 c i a1 h1 a2 h2 a3 h3 a4 h4 a5 h5 a6 h6 a7 h7 a8 h8 a9 h9 a10 h10 a11 h11 a12 h12 a13 h13 hc0 hc1 hc2 x0 x1 x2 x3 x4 = scaleOf x0 := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 hc0 hc1 hc2 x0 x1 x2 x3 x4)]
  unfold kernelRun0_A
  dsimp only
  sl_unfold_words
  rw [View.canon_unit_zero zeros2]
  simp only [View.readAt_eq_ld, h1.read_unread, h2.read_unread, h3.read_unread, h4.read_unread, h5.read_unread, h9.read_unread, h10.read_unread, h11.read_unread, h12.read_unread, h13.read_unread, ld_block, ld_lanes]
  rfl

/-- The first point keeps the codes of its block in the first buffer. -/
theorem sout_A_1 (hc0 : cond0_0 i) (hc1 : cond0_1 i) (hc2 : ¬cond0_2 i) :
    sout0_A_1 c i a1 h1 a2 h2 a3 h3 a4 h4 a5 h5 a6 h6 a7 h7 a8 h8 a9 h9 a10 h10 a11 h11 a12 h12 a13 h13 hc0 hc1 hc2 x0 x1 x2 x3 x4 = wideOf x0 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 hc0 hc1 hc2 x0 x1 x2 x3 x4)]
  unfold kernelRun0_A
  dsimp only
  sl_unfold_words
  rw [View.canon_unit_zero zeros2]
  simp only [View.readAt_eq_ld, h1.read_unread, h2.read_unread, h3.read_unread, h4.read_unread, h5.read_unread, h9.read_unread, h10.read_unread, h11.read_unread, h12.read_unread, h13.read_unread, ld_block, ld_lanes]
  rfl

/-- The first point keeps the scales of its block in the first buffer. -/
theorem sout_A_3 (hc0 : cond0_0 i) (hc1 : cond0_1 i) (hc2 : ¬cond0_2 i) :
    sout0_A_3 c i a1 h1 a2 h2 a3 h3 a4 h4 a5 h5 a6 h6 a7 h7 a8 h8 a9 h9 a10 h10 a11 h11 a12 h12 a13 h13 hc0 hc1 hc2 x0 x1 x2 x3 x4 = lanesOf x0 := by
  unfold sout0_A_3
  rw [View.read_writes_eq_canon _ _ _ (scover0_A_3 c i a1 h1 a2 h2 a3 h3 a4 h4 a5 h5 a6 h6 a7 h7 a8 h8 a9 h9 a10 h10 a11 h11 a12 h12 a13 h13 hc0 hc1 hc2 x0 x1 x2 x3 x4)]
  unfold kernelRun0_A
  dsimp only
  sl_unfold_words
  rw [View.canon_unit_zero zeros2]
  simp only [View.readAt_eq_ld, h1.read_unread, h2.read_unread, h3.read_unread, h4.read_unread, h5.read_unread, h9.read_unread, h10.read_unread, h11.read_unread, h12.read_unread, h13.read_unread, ld_block, ld_lanes]
  rfl

end Cert.Block
-- ==== Proof.CaseW.lean ====
/-
  What the first grid point leaves in the weight buffer.
-/
module

public import proofs.«01_k».proof.Proof.BlockMatmul
public import proofs.«01_k».proof.Proof.BlockScale
public import proofs.«01_k».proof.Proof.Gen.KernelIdeal.Frame
public import Idealize.ShloMosaic.Lib.Tactic

@[expose] public section

set_option maxRecDepth 16384

noncomputable section

open Idealize.ShloMosaic Idealize.ShloMosaic.TcCoe Idealize.ShloMosaic.Tactic Idealize.SL.Sem

namespace Cert.Block

open Cert.KernelIdeal Cert.KernelIdeal.Gen

variable (c : Dev nD) (i : grid0.Coords)
  (a1 : Memref sig .tc .vmem S512x5120 .bf16) (h1 : a1.IsWhole)
  (a2 : Memref sig .tc .vmem S5120x896 .i8) (h2 : a2.IsWhole)
  (a3 : Memref sig .tc .vmem S40x1792 .f32) (h3 : a3.IsWhole)
  (a4 : Memref sig .tc .vmem S40x1792 .i8) (h4 : a4.IsWhole)
  (a5 : Memref sig .tc .vmem S1x1792 .f32) (h5 : a5.IsWhole)
  (a6 : Memref sig .tc .vmem S512x1792 .bf16) (h6 : a6.IsWhole)
  (a7 : Memref sig .tc .vmem S512x5120 .fp8e4m3) (h7 : a7.IsWhole)
  (a8 : Memref sig .tc .vmem S512x1 .f32) (h8 : a8.IsWhole)
  (a9 : Memref sig .tc .vmem S5120x1792 .bf16) (h9 : a9.IsWhole)
  (a10 : Memref sig .tc .vmem S512x5120 .bf16) (h10 : a10.IsWhole)
  (a11 : Memref sig .tc .vmem S512x5120 .bf16) (h11 : a11.IsWhole)
  (a12 : Memref sig .tc .vmem S512x128 .f32) (h12 : a12.IsWhole)
  (a13 : Memref sig .tc .vmem S512x128 .f32) (h13 : a13.IsWhole)
  (x0 : Vec Ideal S512x5120 .bf16) (x1 : Vec Ideal S5120x896 .i8) (x2 : Vec Ideal S40x1792 .f32) (x3 : Vec Ideal S40x1792 .i8)
  (x4 : Vec Ideal S1x1792 .f32)

set_option maxHeartbeats 4000000 in
/-- The first point leaves the dequantised weights in the weight buffer: eighty stores, each its part. -/
theorem sout_A_0 (hc0 : cond0_0 i) (hc1 : cond0_1 i) (hc2 : ¬cond0_2 i) :
    sout0_A_0 c i a1 h1 a2 h2 a3 h3 a4 h4 a5 h5 a6 h6 a7 h7 a8 h8 a9 h9 a10 h10 a11 h11 a12 h12 a13 h13 hc0 hc1 hc2 x0 x1 x2 x3 x4 = wOf x1 x2 x3 := by
  unfold sout0_A_0
  funext y
  rw [View.read_writes_eq_canon _ _ _ (scover0_A_0 c i a1 h1 a2 h2 a3 h3 a4 h4 a5 h5 a6 h6 a7 h7 a8 h8 a9 h9 a10 h10 a11 h11 a12 h12 a13 h13 hc0 hc1 hc2 x0 x1 x2 x3 x4)]
  refine View.canon_apply_of_pieces _ _ ?_ y (scover0_A_0 c i a1 h1 a2 h2 a3 h3 a4 h4 a5 h5 a6 h6 a7 h7 a8 h8 a9 h9 a10 h10 a11 h11 a12 h12 a13 h13 hc0 hc1 hc2 x0 x1 x2 x3 x4 y)
  unfold kernelRun0_A
  dsimp only
  sl_unfold_words
  simp only [View.readAt_eq_ld, h1.read_unread, h2.read_unread, h3.read_unread, h4.read_unread, h5.read_unread, h9.read_unread, h10.read_unread, h11.read_unread, h12.read_unread, h13.read_unread]
  iterate 40 refine List.forall_mem_cons.mpr ⟨hi_piece _ _ _ _ _ (by decide) _ _ _ (by decide), List.forall_mem_cons.mpr ⟨lo_piece _ _ _ _ _ (by decide) _ _ _ (by decide), ?_⟩⟩
  exact List.forall_mem_nil _

end Cert.Block
-- ==== Proof.CaseB.lean ====
/-
  What an odd grid point writes and keeps.
-/
module

public import proofs.«01_k».proof.Proof.BlockMatmul
public import proofs.«01_k».proof.Proof.BlockScale
public import proofs.«01_k».proof.Proof.Gen.KernelIdeal.Frame
public import Idealize.ShloMosaic.Lib.Tactic

@[expose] public section

set_option maxRecDepth 16384

noncomputable section

open Idealize.ShloMosaic Idealize.ShloMosaic.TcCoe Idealize.ShloMosaic.Tactic Idealize.SL.Sem

namespace Cert.Block

open Cert.KernelIdeal Cert.KernelIdeal.Gen

variable (c : Dev nD) (i : grid0.Coords)
  (a1 : Memref sig .tc .vmem S512x5120 .bf16) (h1 : a1.IsWhole)
  (a2 : Memref sig .tc .vmem S5120x896 .i8) (h2 : a2.IsWhole)
  (a3 : Memref sig .tc .vmem S40x1792 .f32) (h3 : a3.IsWhole)
  (a4 : Memref sig .tc .vmem S40x1792 .i8) (h4 : a4.IsWhole)
  (a5 : Memref sig .tc .vmem S1x1792 .f32) (h5 : a5.IsWhole)
  (a6 : Memref sig .tc .vmem S512x1792 .bf16) (h6 : a6.IsWhole)
  (a7 : Memref sig .tc .vmem S512x5120 .fp8e4m3) (h7 : a7.IsWhole)
  (a8 : Memref sig .tc .vmem S512x1 .f32) (h8 : a8.IsWhole)
  (a9 : Memref sig .tc .vmem S5120x1792 .bf16) (h9 : a9.IsWhole)
  (a10 : Memref sig .tc .vmem S512x5120 .bf16) (h10 : a10.IsWhole)
  (a11 : Memref sig .tc .vmem S512x5120 .bf16) (h11 : a11.IsWhole)
  (a12 : Memref sig .tc .vmem S512x128 .f32) (h12 : a12.IsWhole)
  (a13 : Memref sig .tc .vmem S512x128 .f32) (h13 : a13.IsWhole)
  (x0 : Vec Ideal S512x5120 .bf16) (x1 : Vec Ideal S5120x896 .i8) (x2 : Vec Ideal S40x1792 .f32) (x3 : Vec Ideal S40x1792 .i8)
  (x4 : Vec Ideal S1x1792 .f32)
  (xs0 : Vec Ideal S5120x1792 .bf16) (xs1 : Vec Ideal S512x5120 .bf16) (xs3 : Vec Ideal S512x128 .f32)

/-- An odd point writes the product of the codes kept in the first buffer with the weights. -/
theorem out_B_5 (hc0 : ¬cond0_0 i) (hc1 : ¬cond0_1 i) (hc2 : cond0_2 i) :
    out0_B_5 c i a1 h1 a2 h2 a3 h3 a4 h4 a5 h5 a6 h6 a7 h7 a8 h8 a9 h9 a10 h10 a11 h11 a12 h12 a13 h13 hc0 hc1 hc2 x0 x1 x2 x3 x4 xs0 xs1 xs3 = yOf xs1 xs0 xs3 x4 := by
  unfold out0_B_5
  funext y
  rw [View.read_writes_eq_canon _ _ _ (cover0_B_5 c i a1 h1 a2 h2 a3 h3 a4 h4 a5 h5 a6 h6 a7 h7 a8 h8 a9 h9 a10 h10 a11 h11 a12 h12 a13 h13 hc0 hc1 hc2 x0 x1 x2 x3 x4 xs0 xs1 xs3)]
  refine View.canon_apply_of_pieces _ _ ?_ y (cover0_B_5 c i a1 h1 a2 h2 a3 h3 a4 h4 a5 h5 a6 h6 a7 h7 a8 h8 a9 h9 a10 h10 a11 h11 a12 h12 a13 h13 hc0 hc1 hc2 x0 x1 x2 x3 x4 xs0 xs1 xs3 y)
  unfold kernelRun0_B
  dsimp only
  sl_unfold_words
  simp only [View.readAt_eq_ld, h1.read_unread, h2.read_unread, h3.read_unread, h4.read_unread, h5.read_unread, h9.read_unread, h10.read_unread, h11.read_unread, h12.read_unread, h13.read_unread, ld_block, ld_lanes]
  iterate 7 refine List.forall_mem_cons.mpr ⟨y_piece _ _ _ _ _ (by decide) _ _ (by decide), ?_⟩
  exact List.forall_mem_nil _

/-- An odd point writes the codes of its block. -/
theorem out_B_6 (hc0 : ¬cond0_0 i) (hc1 : ¬cond0_1 i) (hc2 : cond0_2 i) :
    out0_B_6 c i a1 h1 a2 h2 a3 h3 a4 h4 a5 h5 a6 h6 a7 h7 a8 h8 a9 h9 a10 h10 a11 h11 a12 h12 a13 h13 hc0 hc1 hc2 x0 x1 x2 x3 x4 xs0 xs1 xs3 = codesOf x0 := by
  unfold out0_B_6
  rw [View.read_writes_eq_canon _ _ _ (cover0_B_6 c i a1 h1 a2 h2 a3 h3 a4 h4 a5 h5 a6 h6 a7 h7 a8 h8 a9 h9 a10 h10 a11 h11 a12 h12 a13 h13 hc0 hc1 hc2 x0 x1 x2 x3 x4 xs0 xs1 xs3)]
  unfold kernelRun0_B
  dsimp only
  sl_unfold_words
  rw [View.canon_unit_zero zeros2]
  simp only [View.readAt_eq_ld, h1.read_unread, h2.read_unread, h3.read_unread, h4.read_unread, h5.read_unread, h9.read_unread, h10.read_unread, h11.read_unread, h12.read_unread, h13.read_unread, ld_block, ld_lanes]
  rfl

/-- An odd point writes the scales of its block. -/
theorem out_B_7 (hc0 : ¬cond0_0 i) (hc1 : ¬cond0_1 i) (hc2 : cond0_2 i) :
    out0_B_7 c i a1 h1 a2 h2 a3 h3 a4 h4 a5 h5 a6 h6 a7 h7 a8 h8 a9 h9 a10 h10 a11 h11 a12 h12 a13 h13 hc0 hc1 hc2 x0 x1 x2 x3 x4 xs0 xs1 xs3 = scaleOf x0 := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 hc0 hc1 hc2 x0 x1 x2 x3 x4 xs0 xs1 xs3)]
  unfold kernelRun0_B
  dsimp only
  sl_unfold_words
  rw [View.canon_unit_zero zeros2]
  simp only [View.readAt_eq_ld, h1.read_unread, h2.read_unread, h3.read_unread, h4.read_unread, h5.read_unread, h9.read_unread, h10.read_unread, h11.read_unread, h12.read_unread, h13.read_unread, ld_block, ld_lanes]
  rfl

/-- An odd point keeps the codes of its block in the second buffer. -/
theorem sout_B_2 (hc0 : ¬cond0_0 i) (hc1 : ¬cond0_1 i) (hc2 : cond0_2 i) :
    sout0_B_2 c i a1 h1 a2 h2 a3 h3 a4 h4 a5 h5 a6 h6 a7 h7 a8 h8 a9 h9 a10 h10 a11 h11 a12 h12 a13 h13 hc0 hc1 hc2 x0 x1 x2 x3 x4 xs0 xs1 xs3 = wideOf x0 := by
  unfold sout0_B_2
  rw [View.read_writes_eq_canon _ _ _ (scover0_B_2 c i a1 h1 a2 h2 a3 h3 a4 h4 a5 h5 a6 h6 a7 h7 a8 h8 a9 h9 a10 h10 a11 h11 a12 h12 a13 h13 hc0 hc1 hc2 x0 x1 x2 x3 x4 xs0 xs1 xs3)]
  unfold kernelRun0_B
  dsimp only
  sl_unfold_words
  rw [View.canon_unit_zero zeros2]
  simp only [View.readAt_eq_ld, h1.read_unread, h2.read_unread, h3.read_unread, h4.read_unread, h5.read_unread, h9.read_unread, h10.read_unread, h11.read_unread, h12.read_unread, h13.read_unread, ld_block, ld_lanes]
  rfl

/-- An odd point keeps the scales of its block in the second buffer. -/
theorem sout_B_4 (hc0 : ¬cond0_0 i) (hc1 : ¬cond0_1 i) (hc2 : cond0_2 i) :
    sout0_B_4 c i a1 h1 a2 h2 a3 h3 a4 h4 a5 h5 a6 h6 a7 h7 a8 h8 a9 h9 a10 h10 a11 h11 a12 h12 a13 h13 hc0 hc1 hc2 x0 x1 x2 x3 x4 xs0 xs1 xs3 = lanesOf x0 := by
  unfold sout0_B_4
  rw [View.read_writes_eq_canon _ _ _ (scover0_B_4 c i a1 h1 a2 h2 a3 h3 a4 h4 a5 h5 a6 h6 a7 h7 a8 h8 a9 h9 a10 h10 a11 h11 a12 h12 a13 h13 hc0 hc1 hc2 x0 x1 x2 x3 x4 xs0 xs1 xs3)]
  unfold kernelRun0_B
  dsimp only
  sl_unfold_words
  rw [View.canon_unit_zero zeros2]
  simp only [View.readAt_eq_ld, h1.read_unread, h2.read_unread, h3.read_unread, h4.read_unread, h5.read_unread, h9.read_unread, h10.read_unread, h11.read_unread, h12.read_unread, h13.read_unread, ld_block, ld_lanes]
  rfl

end Cert.Block
-- ==== Proof.CaseC.lean ====
/-
  What an even grid point after the first writes and keeps.
-/
module

public import proofs.«01_k».proof.Proof.BlockMatmul
public import proofs.«01_k».proof.Proof.BlockScale
public import proofs.«01_k».proof.Proof.Gen.KernelIdeal.Frame
public import Idealize.ShloMosaic.Lib.Tactic

@[expose] public section

set_option maxRecDepth 16384

noncomputable section

open Idealize.ShloMosaic Idealize.ShloMosaic.TcCoe Idealize.ShloMosaic.Tactic Idealize.SL.Sem

namespace Cert.Block

open Cert.KernelIdeal Cert.KernelIdeal.Gen

variable (c : Dev nD) (i : grid0.Coords)
  (a1 : Memref sig .tc .vmem S512x5120 .bf16) (h1 : a1.IsWhole)
  (a2 : Memref sig .tc .vmem S5120x896 .i8) (h2 : a2.IsWhole)
  (a3 : Memref sig .tc .vmem S40x1792 .f32) (h3 : a3.IsWhole)
  (a4 : Memref sig .tc .vmem S40x1792 .i8) (h4 : a4.IsWhole)
  (a5 : Memref sig .tc .vmem S1x1792 .f32) (h5 : a5.IsWhole)
  (a6 : Memref sig .tc .vmem S512x1792 .bf16) (h6 : a6.IsWhole)
  (a7 : Memref sig .tc .vmem S512x5120 .fp8e4m3) (h7 : a7.IsWhole)
  (a8 : Memref sig .tc .vmem S512x1 .f32) (h8 : a8.IsWhole)
  (a9 : Memref sig .tc .vmem S5120x1792 .bf16) (h9 : a9.IsWhole)
  (a10 : Memref sig .tc .vmem S512x5120 .bf16) (h10 : a10.IsWhole)
  (a11 : Memref sig .tc .vmem S512x5120 .bf16) (h11 : a11.IsWhole)
  (a12 : Memref sig .tc .vmem S512x128 .f32) (h12 : a12.IsWhole)
  (a13 : Memref sig .tc .vmem S512x128 .f32) (h13 : a13.IsWhole)
  (x0 : Vec Ideal S512x5120 .bf16) (x1 : Vec Ideal S5120x896 .i8) (x2 : Vec Ideal S40x1792 .f32) (x3 : Vec Ideal S40x1792 .i8)
  (x4 : Vec Ideal S1x1792 .f32)
  (xs0 : Vec Ideal S5120x1792 .bf16) (xs2 : Vec Ideal S512x5120 .bf16) (xs4 : Vec Ideal S512x128 .f32)

/-- A later even point writes the product of the codes kept in the second buffer with the weights. -/
theorem out_C_5 (hc0 : ¬cond0_0 i) (hc1 : cond0_1 i) (hc2 : ¬cond0_2 i) :
    out0_C_5 c i a1 h1 a2 h2 a3 h3 a4 h4 a5 h5 a6 h6 a7 h7 a8 h8 a9 h9 a10 h10 a11 h11 a12 h12 a13 h13 hc0 hc1 hc2 x0 x1 x2 x3 x4 xs0 xs2 xs4 = yOf xs2 xs0 xs4 x4 := by
  unfold out0_C_5
  funext y
  rw [View.read_writes_eq_canon _ _ _ (cover0_C_5 c i a1 h1 a2 h2 a3 h3 a4 h4 a5 h5 a6 h6 a7 h7 a8 h8 a9 h9 a10 h10 a11 h11 a12 h12 a13 h13 hc0 hc1 hc2 x0 x1 x2 x3 x4 xs0 xs2 xs4)]
  refine View.canon_apply_of_pieces _ _ ?_ y (cover0_C_5 c i a1 h1 a2 h2 a3 h3 a4 h4 a5 h5 a6 h6 a7 h7 a8 h8 a9 h9 a10 h10 a11 h11 a12 h12 a13 h13 hc0 hc1 hc2 x0 x1 x2 x3 x4 xs0 xs2 xs4 y)
  unfold kernelRun0_C
  dsimp only
  sl_unfold_words
  simp only [View.readAt_eq_ld, h1.read_unread, h2.read_unread, h3.read_unread, h4.read_unread, h5.read_unread, h9.read_unread, h10.read_unread, h11.read_unread, h12.read_unread, h13.read_unread, ld_block, ld_lanes]
  iterate 7 refine List.forall_mem_cons.mpr ⟨y_piece _ _ _ _ _ (by decide) _ _ (by decide), ?_⟩
  exact List.forall_mem_nil _

/-- A later even point writes the codes of its block. -/
theorem out_C_6 (hc0 : ¬cond0_0 i) (hc1 : cond0_1 i) (hc2 : ¬cond0_2 i) :
    out0_C_6 c i a1 h1 a2 h2 a3 h3 a4 h4 a5 h5 a6 h6 a7 h7 a8 h8 a9 h9 a10 h10 a11 h11 a12 h12 a13 h13 hc0 hc1 hc2 x0 x1 x2 x3 x4 xs0 xs2 xs4 = codesOf x0 := by
  unfold out0_C_6
  rw [View.read_writes_eq_canon _ _ _ (cover0_C_6 c i a1 h1 a2 h2 a3 h3 a4 h4 a5 h5 a6 h6 a7 h7 a8 h8 a9 h9 a10 h10 a11 h11 a12 h12 a13 h13 hc0 hc1 hc2 x0 x1 x2 x3 x4 xs0 xs2 xs4)]
  unfold kernelRun0_C
  dsimp only
  sl_unfold_words
  rw [View.canon_unit_zero zeros2]
  simp only [View.readAt_eq_ld, h1.read_unread, h2.read_unread, h3.read_unread, h4.read_unread, h5.read_unread, h9.read_unread, h10.read_unread, h11.read_unread, h12.read_unread, h13.read_unread, ld_block, ld_lanes]
  rfl

/-- A later even point writes the scales of its block. -/
theorem out_C_7 (hc0 : ¬cond0_0 i) (hc1 : cond0_1 i) (hc2 : ¬cond0_2 i) :
    out0_C_7 c i a1 h1 a2 h2 a3 h3 a4 h4 a5 h5 a6 h6 a7 h7 a8 h8 a9 h9 a10 h10 a11 h11 a12 h12 a13 h13 hc0 hc1 hc2 x0 x1 x2 x3 x4 xs0 xs2 xs4 = scaleOf x0 := by
  unfold out0_C_7
  rw [View.read_writes_eq_canon _ _ _ (cover0_C_7 c i a1 h1 a2 h2 a3 h3 a4 h4 a5 h5 a6 h6 a7 h7 a8 h8 a9 h9 a10 h10 a11 h11 a12 h12 a13 h13 hc0 hc1 hc2 x0 x1 x2 x3 x4 xs0 xs2 xs4)]
  unfold kernelRun0_C
  dsimp only
  sl_unfold_words
  rw [View.canon_unit_zero zeros2]
  simp only [View.readAt_eq_ld, h1.read_unread, h2.read_unread, h3.read_unread, h4.read_unread, h5.read_unread, h9.read_unread, h10.read_unread, h11.read_unread, h12.read_unread, h13.read_unread, ld_block, ld_lanes]
  rfl

/-- A later even point keeps the codes of its block in the first buffer. -/
theorem sout_C_1 (hc0 : ¬cond0_0 i) (hc1 : cond0_1 i) (hc2 : ¬cond0_2 i) :
    sout0_C_1 c i a1 h1 a2 h2 a3 h3 a4 h4 a5 h5 a6 h6 a7 h7 a8 h8 a9 h9 a10 h10 a11 h11 a12 h12 a13 h13 hc0 hc1 hc2 x0 x1 x2 x3 x4 xs0 xs2 xs4 = wideOf x0 := by
  unfold sout0_C_1
  rw [View.read_writes_eq_canon _ _ _ (scover0_C_1 c i a1 h1 a2 h2 a3 h3 a4 h4 a5 h5 a6 h6 a7 h7 a8 h8 a9 h9 a10 h10 a11 h11 a12 h12 a13 h13 hc0 hc1 hc2 x0 x1 x2 x3 x4 xs0 xs2 xs4)]
  unfold kernelRun0_C
  dsimp only
  sl_unfold_words
  rw [View.canon_unit_zero zeros2]
  simp only [View.readAt_eq_ld, h1.read_unread, h2.read_unread, h3.read_unread, h4.read_unread, h5.read_unread, h9.read_unread, h10.read_unread, h11.read_unread, h12.read_unread, h13.read_unread, ld_block, ld_lanes]
  rfl

/-- A later even point keeps the scales of its block in the first buffer. -/
theorem sout_C_3 (hc0 : ¬cond0_0 i) (hc1 : cond0_1 i) (hc2 : ¬cond0_2 i) :
    sout0_C_3 c i a1 h1 a2 h2 a3 h3 a4 h4 a5 h5 a6 h6 a7 h7 a8 h8 a9 h9 a10 h10 a11 h11 a12 h12 a13 h13 hc0 hc1 hc2 x0 x1 x2 x3 x4 xs0 xs2 xs4 = lanesOf x0 := by
  unfold sout0_C_3
  rw [View.read_writes_eq_canon _ _ _ (scover0_C_3 c i a1 h1 a2 h2 a3 h3 a4 h4 a5 h5 a6 h6 a7 h7 a8 h8 a9 h9 a10 h10 a11 h11 a12 h12 a13 h13 hc0 hc1 hc2 x0 x1 x2 x3 x4 xs0 xs2 xs4)]
  unfold kernelRun0_C
  dsimp only
  sl_unfold_words
  rw [View.canon_unit_zero zeros2]
  simp only [View.readAt_eq_ld, h1.read_unread, h2.read_unread, h3.read_unread, h4.read_unread, h5.read_unread, h9.read_unread, h10.read_unread, h11.read_unread, h12.read_unread, h13.read_unread, ld_block, ld_lanes]
  rfl

end Cert.Block
-- ==== Proof.Sweep.lean ====
/-
  The run over the grid: what each point writes and what it leaves for the next one.
-/
module

public import proofs.«01_k».proof.Proof.CaseA
public import proofs.«01_k».proof.Proof.CaseW
public import proofs.«01_k».proof.Proof.CaseB
public import proofs.«01_k».proof.Proof.CaseC

@[expose] public section

set_option maxRecDepth 16384

noncomputable section

open Idealize.ShloMosaic Idealize.ShloMosaic.TcCoe Idealize.SL.Sem

namespace Cert.Sweep

open Cert.KernelIdeal Cert.KernelIdeal.Gen Cert.Block

variable (m : (ℓ : Loc nD τ sig) → Buf (Elt Ideal) ℓ)

/-- The block of activations that grid point `t` reads. -/
abbrev xblk (c : Dev nD) (t : Fin cfg0.N) : Vec Ideal S512x5120 .bf16 := iblk m c 0 t

/-- The dequantised weights, of the arrays as the kernel finds them. -/
abbrev W (c : Dev nD) : Vec Ideal S5120x1792 .bf16 := wOf (V m c main_arg1) (V m c main_arg2) (V m c main_arg3)

theorem index1 : ∀ t : Fin cfg0.N, win0_1.index t (0 : Fin 2) = 0 ∧ win0_1.index t (1 : Fin 2) = 0 :=
  (by decide +kernel : ∀ t : Fin grid0.N, _)

/-- Every point reads the whole of input 1. -/
theorem input1 (c : Dev nD) (t : Fin cfg0.N) : (iblk m c 1 t : Vec Ideal S5120x896 .i8) = V m c main_arg1 := by
  funext j
  show V m c main_arg1 (((cfg0.win 1).blk t).view.emb j) = V m c main_arg1 j
  obtain ⟨e0, e1⟩ := index1 t
  congr 1
  funext a
  apply Fin.ext
  match a with
  | ⟨0, _⟩ => show win0_1.index t (0 : Fin 2) * 5120 + 1 * (j 0).val = (j 0).val; omega
  | ⟨1, _⟩ => show win0_1.index t (1 : Fin 2) * 896 + 1 * (j 1).val = (j 1).val; omega

theorem index2 : ∀ t : Fin cfg0.N, win0_2.index t (0 : Fin 2) = 0 ∧ win0_2.index t (1 : Fin 2) = 0 :=
  (by decide +kernel : ∀ t : Fin grid0.N, _)

/-- Every point reads the whole of input 2. -/
theorem input2 (c : Dev nD) (t : Fin cfg0.N) : (iblk m c 2 t : Vec Ideal S40x1792 .f32) = V m c main_arg2 := by
  funext j
  show V m c main_arg2 (((cfg0.win 2).blk t).view.emb j) = V m c main_arg2 j
  obtain ⟨e0, e1⟩ := index2 t
  congr 1
  funext a
  apply Fin.ext
  match a with
  | ⟨0, _⟩ => show win0_2.index t (0 : Fin 2) * 40 + 1 * (j 0).val = (j 0).val; omega
  | ⟨1, _⟩ => show win0_2.index t (1 : Fin 2) * 1792 + 1 * (j 1).val = (j 1).val; omega

theorem index3 : ∀ t : Fin cfg0.N, win0_3.index t (0 : Fin 2) = 0 ∧ win0_3.index t (1 : Fin 2) = 0 :=
  (by decide +kernel : ∀ t : Fin grid0.N, _)

/-- Every point reads the whole of input 3. -/
theorem input3 (c : Dev nD) (t : Fin cfg0.N) : (iblk m c 3 t : Vec Ideal S40x1792 .i8) = V m c main_arg3 := by
  funext j
  show V m c main_arg3 (((cfg0.win 3).blk t).view.emb j) = V m c main_arg3 j
  obtain ⟨e0, e1⟩ := index3 t
  congr 1
  funext a
  apply Fin.ext
  match a with
  | ⟨0, _⟩ => show win0_3.index t (0 : Fin 2) * 40 + 1 * (j 0).val = (j 0).val; omega
  | ⟨1, _⟩ => show win0_3.index t (1 : Fin 2) * 1792 + 1 * (j 1).val = (j 1).val; omega

theorem index4 : ∀ t : Fin cfg0.N, win0_4.index t (0 : Fin 2) = 0 ∧ win0_4.index t (1 : Fin 2) = 0 :=
  (by decide +kernel : ∀ t : Fin grid0.N, _)

/-- Every point reads the whole of input 4. -/
theorem input4 (c : Dev nD) (t : Fin cfg0.N) : (iblk m c 4 t : Vec Ideal S1x1792 .f32) = V m c main_v1 := by
  funext j
  show V m c main_v1 (((cfg0.win 4).blk t).view.emb j) = V m c main_v1 j
  obtain ⟨e0, e1⟩ := index4 t
  congr 1
  funext a
  apply Fin.ext
  match a with
  | ⟨0, _⟩ => show win0_4.index t (0 : Fin 2) * 1 + 1 * (j 0).val = (j 0).val; omega
  | ⟨1, _⟩ => show win0_4.index t (1 : Fin 2) * 1792 + 1 * (j 1).val = (j 1).val; omega

/-- What the point before left is enough for this one: the weights, and in the pair of scratch buffers of the
    point's parity the codes and the scales of its block. -/
def Left (c : Dev nD) (n : ℕ) (h : n < cfg0.N) : Prop :=
  (outsAt0 m c n h).2.2.2.1 = W m c
  ∧ (n % 2 = 0 → (outsAt0 m c n h).2.2.2.2.1 = wideOf (xblk m c ⟨n, h⟩)
      ∧ (outsAt0 m c n h).2.2.2.2.2.2.1 = lanesOf (xblk m c ⟨n, h⟩))
  ∧ (n % 2 = 1 → (outsAt0 m c n h).2.2.2.2.2.1 = wideOf (xblk m c ⟨n, h⟩)
      ∧ (outsAt0 m c n h).2.2.2.2.2.2.2 = lanesOf (xblk m c ⟨n, h⟩))

theorem left (c : Dev nD) : ∀ (n : ℕ) (h : n < cfg0.N), Left m c n h
  | 0, h => by
    have e := outsAt0_A m c ⟨0, h⟩ rfl rfl (by dsimp only; omega)
    unfold Left
    dsimp only at e
    rw [e]
    dsimp only
    refine ⟨?_, fun _ => ⟨sout_A_1 .., sout_A_3 ..⟩, fun h => absurd h (by decide)⟩
    rw [sout_A_0, input1, input2, input3]
  | n + 1, h => by
    have hN : n + 1 < 49 := lt_of_lt_of_eq h N_0
    have h0 : ¬(⟨n + 1, h⟩ : Fin cfg0.N).val % 49 = 0 := by dsimp only; omega
    obtain ⟨hw, -, -⟩ := left c n (Nat.lt_of_succ_lt h)
    unfold Left
    by_cases h1 : (n + 1) % 2 = 0
    · have e := outsAt0_C m c ⟨n + 1, h⟩ h0 h1 (by dsimp only; omega)
      dsimp only at e
      rw [e]
      dsimp only
      exact ⟨hw, fun _ => ⟨sout_C_1 .., sout_C_3 ..⟩, fun h => absurd h (by omega)⟩
    · have e := outsAt0_B m c ⟨n + 1, h⟩ h0 h1 (by dsimp only; omega)
      dsimp only at e
      rw [e]
      dsimp only
      exact ⟨hw, fun h => absurd h (by omega), fun _ => ⟨sout_B_2 .., sout_B_4 ..⟩⟩

/-- Every point writes the codes of its block. -/
theorem codes_at (c : Dev nD) (t : Fin cfg0.N) : (outsAt0 m c t.val t.isLt).2.1 = codesOf (xblk m c t) := by
  have hN : t.val < 49 := lt_of_lt_of_eq t.isLt N_0
  by_cases h0 : t.val % 49 = 0
  · rw [outsAt0_A m c t h0 (by omega) (by omega)]; dsimp only; rw [out_A_6]
  · by_cases h1 : t.val % 2 = 0
    · rw [outsAt0_C m c t h0 h1 (by omega)]; dsimp only; rw [out_C_6]
    · rw [outsAt0_B m c t h0 h1 (by omega)]; dsimp only; rw [out_B_6]

/-- Every point writes the scales of its block. -/
theorem scales_at (c : Dev nD) (t : Fin cfg0.N) : (outsAt0 m c t.val t.isLt).2.2.1 = scaleOf (xblk m c t) := by
  have hN : t.val < 49 := lt_of_lt_of_eq t.isLt N_0
  by_cases h0 : t.val % 49 = 0
  · rw [outsAt0_A m c t h0 (by omega) (by omega)]; dsimp only; rw [out_A_7]
  · by_cases h1 : t.val % 2 = 0
    · rw [outsAt0_C m c t h0 h1 (by omega)]; dsimp only; rw [out_C_7]
    · rw [outsAt0_B m c t h0 h1 (by omega)]; dsimp only; rw [out_B_7]

/-- Every point but the first writes the products of the block of the point before. -/
theorem product_at (c : Dev nD) (n : ℕ) (h : n + 1 < cfg0.N) :
    (outsAt0 m c (n + 1) h).1
      = yOf (wideOf (xblk m c ⟨n, Nat.lt_of_succ_lt h⟩)) (W m c) (lanesOf (xblk m c ⟨n, Nat.lt_of_succ_lt h⟩)) (V m c main_v1) := by
  have hN : n + 1 < 49 := lt_of_lt_of_eq h N_0
  have h0 : ¬(⟨n + 1, h⟩ : Fin cfg0.N).val % 49 = 0 := by dsimp only; omega
  obtain ⟨hw, he, ho⟩ := left m c n (Nat.lt_of_succ_lt h)
  by_cases h1 : (n + 1) % 2 = 0
  · have e := outsAt0_C m c ⟨n + 1, h⟩ h0 h1 (by dsimp only; omega)
    dsimp only at e
    rw [e]
    dsimp only
    obtain ⟨hb, hs⟩ := ho (by omega)
    rw [out_C_5, input4]
    show yOf (outsAt0 m c n _).2.2.2.2.2.1 (outsAt0 m c n _).2.2.2.1 (outsAt0 m c n _).2.2.2.2.2.2.2 _ = _
    rw [hw, hb, hs]
  · have e := outsAt0_B m c ⟨n + 1, h⟩ h0 h1 (by dsimp only; omega)
    dsimp only at e
    rw [e]
    dsimp only
    obtain ⟨hb, hs⟩ := he (by omega)
    rw [out_B_5, input4]
    show yOf (outsAt0 m c n _).2.2.2.2.1 (outsAt0 m c n _).2.2.2.1 (outsAt0 m c n _).2.2.2.2.2.2.1 _ = _
    rw [hw, hb, hs]

end Cert.Sweep

end
-- ==== Proof.Arrays.lean ====
/-
  What the arrays hold after the run: the blocks the points write, put together.
-/
module

public import proofs.«01_k».proof.Proof.Sweep
public import proofs.«01_k».proof.Proof.Gen.KernelIdeal.Value

@[expose] public section

set_option maxRecDepth 16384

noncomputable section

open Idealize.ShloMosaic Idealize.ShloMosaic.TcCoe Idealize.ShloMosaic.Tactic Idealize.SL.Sem

namespace Cert.Sweep

open Cert.KernelIdeal Cert.KernelIdeal.Gen Cert.Block Cert.Words

/-- Row `r` of the activations. -/
def row (X : Vec Ideal S24576x5120 .bf16) (r : Fin 24576) : Fin 5120 → EReal := fun k => X (ix2 r k)

/-- The codes of all activations. -/
def codes (X : Vec Ideal S24576x5120 .bf16) : Vec Ideal S24576x5120 .fp8e4m3 := fun j => code (row X (j 0)) (j 1)

/-- The scales of all rows. -/
def scales (X : Vec Ideal S24576x5120 .bf16) : Vec Ideal S24576x1 .f32 := fun j => scale (row X (j 0))

/-- Entry (row `r`, column `n`) of the linear layer: codes times weights, scaled by row and by column. -/
def entry (X : Vec Ideal S24576x5120 .bf16) (w : Vec Ideal S5120x1792 .bf16) (ws : Vec Ideal S1x1792 .f32) (r : Fin 24576)
    (n : Fin 1792) : EReal :=
  ((∑ k : Fin 5120, code (row X r) k * w (ix2 k n)) * scale (row X r)) * ws (ix2 0 n)

/-- The result of the linear layer. -/
def product (X : Vec Ideal S24576x5120 .bf16) (w : Vec Ideal S5120x1792 .bf16) (ws : Vec Ideal S1x1792 .f32) :
    Vec Ideal S24576x1792 .bf16 := fun j => entry X w ws (j 0) (j 1)

variable (m : (ℓ : Loc nD τ sig) → Buf (Elt Ideal) ℓ)

/-- The activations as the kernel finds them. -/
abbrev X (c : Dev nD) : Vec Ideal S24576x5120 .bf16 := V m c main_v0

theorem index0 : ∀ t : Fin cfg0.N, win0_0.index t (0 : Fin 2) = min t.val 47 ∧ win0_0.index t (1 : Fin 2) = 0 :=
  (by decide +kernel : ∀ t : Fin grid0.N, _)

theorem index5 : ∀ t : Fin cfg0.N, win0_5.index t (0 : Fin 2) = t.val - 1 ∧ win0_5.index t (1 : Fin 2) = 0 :=
  (by decide +kernel : ∀ t : Fin grid0.N, _)

theorem index6 : ∀ t : Fin cfg0.N, win0_6.index t (0 : Fin 2) = min t.val 47 ∧ win0_6.index t (1 : Fin 2) = 0 :=
  (by decide +kernel : ∀ t : Fin grid0.N, _)

theorem index7 : ∀ t : Fin cfg0.N, win0_7.index t (0 : Fin 2) = min t.val 47 ∧ win0_7.index t (1 : Fin 2) = 0 :=
  (by decide +kernel : ∀ t : Fin grid0.N, _)

/-- The products are written back by every point but the first. -/
theorem flush5 : ∀ t : Fin cfg0.N, (cfg0.win 5).flush t = true ↔ t.val ≠ 0 :=
  (by decide +kernel : ∀ t : Fin grid0.N, win0_5.flush t = true ↔ t.val ≠ 0)

/-- The codes are written back by every point but the last but one, whose block the last writes again. -/
theorem flush6 : ∀ t : Fin cfg0.N, (cfg0.win 6).flush t = true ↔ t.val ≠ 47 :=
  (by decide +kernel : ∀ t : Fin grid0.N, win0_6.flush t = true ↔ t.val ≠ 47)

/-- So are the scales. -/
theorem flush7 : ∀ t : Fin cfg0.N, (cfg0.win 7).flush t = true ↔ t.val ≠ 47 :=
  (by decide +kernel : ∀ t : Fin grid0.N, win0_7.flush t = true ↔ t.val ≠ 47)

/-- Row `r` of the block that point `t` reads is a row of the activations. -/
theorem rowOf_xblk (c : Dev nD) (t : Fin cfg0.N) (r : Fin 512) (R : Fin 24576) (hR : R.val = min t.val 47 * 512 + r.val) :
    rowOf (xblk m c t) r = row (X m c) R := by
  funext k
  show V m c main_v0 (((cfg0.win 0).blk t).view.emb (ix2 r k)) = V m c main_v0 (ix2 R k)
  obtain ⟨e0, e1⟩ := index0 t
  congr 1
  funext a
  apply Fin.ext
  match a with
  | ⟨0, _⟩ => show win0_0.index t (0 : Fin 2) * 512 + 1 * r.val = R.val; rw [e0, hR]; omega
  | ⟨1, _⟩ => show win0_0.index t (1 : Fin 2) * 5120 + 1 * k.val = k.val; rw [e1]; omega

/-- An index of the block of codes that point `t` writes is this index of the array. -/
theorem emb6 (t : Fin cfg0.N) (r : Fin 512) (k : Fin 5120) (R : Fin 24576) (hR : R.val = min t.val 47 * 512 + r.val) :
    ((cfg0.win 6).blk t).view.emb (ix2 r k) = ix2 R k := by
  obtain ⟨e0, e1⟩ := index6 t
  funext a
  apply Fin.ext
  match a with
  | ⟨0, _⟩ => show win0_6.index t (0 : Fin 2) * 512 + 1 * r.val = R.val; rw [e0, hR]; omega
  | ⟨1, _⟩ => show win0_6.index t (1 : Fin 2) * 5120 + 1 * k.val = k.val; rw [e1]; omega

/-- An index of the block of scales that point `t` writes is this index of the array. -/
theorem emb7 (t : Fin cfg0.N) (r : Fin 512) (k : Fin 1) (R : Fin 24576) (hR : R.val = min t.val 47 * 512 + r.val) :
    ((cfg0.win 7).blk t).view.emb (ix2 r k) = ix2 R k := by
  obtain ⟨e0, e1⟩ := index7 t
  funext a
  apply Fin.ext
  match a with
  | ⟨0, _⟩ => show win0_7.index t (0 : Fin 2) * 512 + 1 * r.val = R.val; rw [e0, hR]; omega
  | ⟨1, _⟩ => show win0_7.index t (1 : Fin 2) * 1 + 1 * k.val = k.val; rw [e1]; omega

/-- An index of the block of products that point `t` writes is this index of the array. -/
theorem emb5 (t : Fin cfg0.N) (r : Fin 512) (k : Fin 1792) (R : Fin 24576) (hR : R.val = (t.val - 1) * 512 + r.val) :
    ((cfg0.win 5).blk t).view.emb (ix2 r k) = ix2 R k := by
  obtain ⟨e0, e1⟩ := index5 t
  funext a
  apply Fin.ext
  match a with
  | ⟨0, _⟩ => show win0_5.index t (0 : Fin 2) * 512 + 1 * r.val = R.val; rw [e0, hR]; omega
  | ⟨1, _⟩ => show win0_5.index t (1 : Fin 2) * 1792 + 1 * k.val = k.val; rw [e1]; omega

/-- This index of the array is in the block of codes that point `t` writes. -/
theorem mem6 (t : Fin cfg0.N) (r : Fin 512) (k : Fin 5120) (R : Fin 24576) (hR : R.val = min t.val 47 * 512 + r.val) :
    (ix2 R k : S24576x5120.Idx) ∈ ((cfg0.win 6).blk t).view.set := by
  have h := ((cfg0.win 6).blk t).view.emb_mem_set (ix2 r k : S512x5120.Idx)
  rwa [emb6 t r k R hR] at h

/-- This index of the array is in the block of scales that point `t` writes. -/
theorem mem7 (t : Fin cfg0.N) (r : Fin 512) (k : Fin 1) (R : Fin 24576) (hR : R.val = min t.val 47 * 512 + r.val) :
    (ix2 R k : S24576x1.Idx) ∈ ((cfg0.win 7).blk t).view.set := by
  have h := ((cfg0.win 7).blk t).view.emb_mem_set (ix2 r k : S512x1.Idx)
  rwa [emb7 t r k R hR] at h

/-- This index of the array is in the block of products that point `t` writes. -/
theorem mem5 (t : Fin cfg0.N) (r : Fin 512) (k : Fin 1792) (R : Fin 24576) (hR : R.val = (t.val - 1) * 512 + r.val) :
    (ix2 R k : S24576x1792.Idx) ∈ ((cfg0.win 5).blk t).view.set := by
  have h := ((cfg0.win 5).blk t).view.emb_mem_set (ix2 r k : S512x1792.Idx)
  rwa [emb5 t r k R hR] at h

/-- Every index of a matrix is a row and a column. -/
theorem split2 {a b : ℕ} (j : (⟨2, ![a, b]⟩ : Shape).Idx) : ∃ (r : Fin a) (k : Fin b), j = ix2 r k :=
  ⟨j 0, j 1, by funext i; fin_cases i <;> rfl⟩

section
variable (c : Dev nD) (hs : ∀ r, scaleField (level (row (X m c) r)) ≤ 254)
include hs

/-- What a point writes back to the codes is its part of them. -/
theorem flushed6_eq (t : Fin cfg0.N) :
    (dats m 0 c).flushed 6 t = ((cfg0.win 6).blk t).view.read (Elt Ideal) (codes (X m c)) := by
  rw [Value.flushed6, codes_at]
  funext j
  obtain ⟨r, k, rfl⟩ := split2 (a := 512) (b := 5120) j
  have hN : t.val < 49 := lt_of_lt_of_eq t.isLt N_0
  have hb : min t.val 47 * 512 + r.val < 24576 := by have := r.isLt; omega
  show codesOf (xblk m c t) (ix2 r k) = codes (X m c) (((cfg0.win 6).blk t).view.emb (ix2 r k))
  have e := rowOf_xblk m c t r ⟨_, hb⟩ rfl
  rw [emb6 t r k ⟨_, hb⟩ rfl]
  unfold codesOf
  rw [code_apply _ r k (by rw [e]; exact hs _), e]
  rfl

omit hs in
/-- What a point writes back to the scales is its part of them. -/
theorem flushed7_eq (t : Fin cfg0.N) :
    (dats m 0 c).flushed 7 t = ((cfg0.win 7).blk t).view.read (Elt Ideal) (scales (X m c)) := by
  rw [Value.flushed7, scales_at]
  funext j
  obtain ⟨r, k, rfl⟩ := split2 (a := 512) (b := 1) j
  have hN : t.val < 49 := lt_of_lt_of_eq t.isLt N_0
  have hb : min t.val 47 * 512 + r.val < 24576 := by have := r.isLt; omega
  show scaleOf (xblk m c t) (ix2 r k) = scales (X m c) (((cfg0.win 7).blk t).view.emb (ix2 r k))
  rw [emb7 t r k ⟨_, hb⟩ rfl]
  unfold scaleOf
  rw [scale_apply, rowOf_xblk m c t r ⟨_, hb⟩ rfl]
  rfl

/-- What a point but the first writes back to the products is its part of them. -/
theorem flushed5_eq (t : Fin cfg0.N) (hf : (cfg0.win 5).flush t = true) :
    (dats m 0 c).flushed 5 t = ((cfg0.win 5).blk t).view.read (Elt Ideal) (product (X m c) (W m c) (V m c main_v1)) := by
  have hN : t.val < 49 := lt_of_lt_of_eq t.isLt N_0
  have h0 : t.val ≠ 0 := (flush5 t).mp hf
  obtain ⟨n, hn⟩ := t
  obtain ⟨n, rfl⟩ : ∃ n', n = n' + 1 := ⟨n - 1, by dsimp only at h0; omega⟩
  rw [Value.flushed5]
  dsimp only at hN ⊢
  rw [product_at m c n hn]
  funext j
  obtain ⟨r, k, rfl⟩ := split2 (a := 512) (b := 1792) j
  have hb : (n + 1 - 1) * 512 + r.val < 24576 := by have := r.isLt; omega
  show yAt _ _ _ _ r k = product (X m c) (W m c) (V m c main_v1) (((cfg0.win 5).blk ⟨n + 1, hn⟩).view.emb (ix2 r k))
  rw [emb5 ⟨n + 1, hn⟩ r k ⟨_, hb⟩ rfl]
  show _ = entry (X m c) (W m c) (V m c main_v1) ⟨_, hb⟩ k
  have e := rowOf_xblk m c ⟨n, Nat.lt_of_succ_lt hn⟩ r ⟨_, hb⟩ (by show (n + 1 - 1) * 512 + r.val = min n 47 * 512 + r.val; omega)
  have ec (i : Fin 5120) := code_apply' (xblk m c ⟨n, Nat.lt_of_succ_lt hn⟩) r i (by rw [e]; exact hs _)
  unfold yAt entry wideOf lanesOf
  simp only [ec, lanes_apply, e]

/-- The codes after the run. -/
theorem final6 : (dats m 0 c).arrAt 6 cfg0.N = codes (X m c) :=
  (dats m 0 c).arrAt_eq_of_cover 6 (codes (X m c)) (fun t _ => flushed6_eq m c hs t) fun i => by
    obtain ⟨r, k, rfl⟩ := split2 (a := 24576) (b := 5120) i
    have hr := r.isLt
    by_cases h : r.val / 512 = 47
    · refine ⟨⟨48, by rw [show cfg0.N = 49 from N_0]; decide⟩, (flush6 _).mpr (by decide), ?_⟩
      exact mem6 ⟨48, by rw [show cfg0.N = 49 from N_0]; decide⟩ ⟨r.val % 512, Nat.mod_lt _ (by decide)⟩ k r (by show r.val = 47 * 512 + r.val % 512; omega)
    · refine ⟨⟨r.val / 512, by rw [show cfg0.N = 49 from N_0]; omega⟩, (flush6 _).mpr h, ?_⟩
      exact mem6 ⟨r.val / 512, by rw [show cfg0.N = 49 from N_0]; omega⟩ ⟨r.val % 512, Nat.mod_lt _ (by decide)⟩ k r (by show r.val = min (r.val / 512) 47 * 512 + r.val % 512; omega)

omit hs in
/-- The scales after the run. -/
theorem final7 : (dats m 0 c).arrAt 7 cfg0.N = scales (X m c) :=
  (dats m 0 c).arrAt_eq_of_cover 7 (scales (X m c)) (fun t _ => flushed7_eq m c t) fun i => by
    obtain ⟨r, k, rfl⟩ := split2 (a := 24576) (b := 1) i
    have hr := r.isLt
    by_cases h : r.val / 512 = 47
    · refine ⟨⟨48, by rw [show cfg0.N = 49 from N_0]; decide⟩, (flush7 _).mpr (by decide), ?_⟩
      exact mem7 ⟨48, by rw [show cfg0.N = 49 from N_0]; decide⟩ ⟨r.val % 512, Nat.mod_lt _ (by decide)⟩ k r (by show r.val = 47 * 512 + r.val % 512; omega)
    · refine ⟨⟨r.val / 512, by rw [show cfg0.N = 49 from N_0]; omega⟩, (flush7 _).mpr h, ?_⟩
      exact mem7 ⟨r.val / 512, by rw [show cfg0.N = 49 from N_0]; omega⟩ ⟨r.val % 512, Nat.mod_lt _ (by decide)⟩ k r (by show r.val = min (r.val / 512) 47 * 512 + r.val % 512; omega)

/-- The products after the run. -/
theorem final5 : (dats m 0 c).arrAt 5 cfg0.N = product (X m c) (W m c) (V m c main_v1) :=
  (dats m 0 c).arrAt_eq_of_cover 5 (product (X m c) (W m c) (V m c main_v1)) (flushed5_eq m c hs) fun i => by
    obtain ⟨r, k, rfl⟩ := split2 (a := 24576) (b := 1792) i
    have hr := r.isLt
    refine ⟨⟨r.val / 512 + 1, by rw [show cfg0.N = 49 from N_0]; omega⟩, (flush5 _).mpr (Nat.succ_ne_zero _), ?_⟩
    exact mem5 ⟨r.val / 512 + 1, by rw [show cfg0.N = 49 from N_0]; omega⟩ ⟨r.val % 512, Nat.mod_lt _ (by decide)⟩ k r (by show r.val = (r.val / 512 + 1 - 1) * 512 + r.val % 512; omega)

end

/-- The activations the kernel finds are the argument, its rows in order. -/
theorem X_eq (c : Dev nD) : X m c = shapeCast S24576x5120 (m ((c : Thread nD τ).loc main_arg0)) shapeCasts_S3x8192x5120_S24576x5120 := by
  show StableHlo.after hostOps0 _ (Proc.devRef .tc main_v0) = _
  after_results
  rfl

/-- The column scales the kernel finds are the argument, as one row. -/
theorem ws_eq (c : Dev nD) : V m c main_v1 = shapeCast S1x1792 (m ((c : Thread nD τ).loc main_arg4)) shapeCasts_S1792_S1x1792 := by
  show StableHlo.after hostOps0 _ (Proc.devRef .tc main_v1) = _
  after_results
  rfl

end Cert.Sweep

end
-- ==== Proof.Bound.lean ====
/-
  The level of a row of finite activations is not negative and below two to the 120.
-/
module

public import proofs.«01_k».proof.Proof.BlockScale
public import proofs.«01_k».proof.Pre_finite
public import Idealize.ShloMosaic.Lib.Pointwise

@[expose] public section

noncomputable section

open Idealize.ShloMosaic

namespace Cert.Words

/-- A level is not negative. -/
theorem level_nonneg (row : Fin 5120 → EReal) : 0 ≤ level row := by
  obtain ⟨r, hr, r0, -⟩ := recip_word
  have hf : (0 : EReal) ≤ Finset.univ.fold max (Ideal.ofBits .bf16 0xFF80#16) fun k => max (row k) (-(row k)) := by
    rw [Finset.le_fold_max]
    refine .inr ⟨0, Finset.mem_univ _, ?_⟩
    rcases le_total 0 (row 0) with h | h
    · exact le_max_of_le_left h
    · exact le_max_of_le_right (EReal.neg_nonneg.mpr h)
  unfold level
  rw [hr]
  exact mul_nonneg hf (EReal.coe_nonneg.mpr r0)

/-- The level of a row whose elements are at most the greatest finite bfloat16 value in magnitude is below two to the 120. -/
theorem level_lt (row : Fin 5120 → EReal) (h : ∀ k, max (row k) (-(row k)) ≤ Ideal.ofBits .bf16 0x7F7F#16) :
    level row < power 247 := by
  obtain ⟨r, hr, r0, r1⟩ := recip_word
  obtain ⟨M, hM, M0, M1⟩ := max_word
  have hf : (Finset.univ.fold max (Ideal.ofBits .bf16 0xFF80#16) fun k => max (row k) (-(row k))) ≤ (M : EReal) := by
    rw [Finset.fold_max_le, neg_inf_bf16]
    exact ⟨bot_le, fun k _ => hM ▸ h k⟩
  unfold level
  rw [hr, power_eq 247 (by decide) (by decide)]
  refine lt_of_le_of_lt (mul_le_mul_of_nonneg_right hf (EReal.coe_nonneg.mpr r0)) ?_
  rw [← EReal.coe_mul, EReal.coe_lt_coe_iff]
  calc M * r ≤ (2 : ℝ) ^ (128 : ℤ) * r := mul_le_mul_of_nonneg_right M1 r0
    _ < (2 : ℝ) ^ (128 : ℤ) * (2 : ℝ) ^ (-8 : ℤ) := mul_lt_mul_of_pos_left r1 (by positivity)
    _ = (2 : ℝ) ^ (((247 : ℕ) : ℤ) - 127) := by rw [← zpow_add₀ (by norm_num)]; norm_num

end Cert.Words

namespace Cert.Finite

/-- What the precondition says of an array of activations: no magnitude exceeds the greatest finite bfloat16 value. -/
theorem of_pre [Cert.Pre_finite.Facts] (x : FVec Ideal Cert.Pre_finite.S3x8192x5120 .bf16) (a1 : IVec Cert.Pre_finite.S5120x896 8)
    (a2 : FVec Ideal Cert.Pre_finite.S40x1792 .f32) (a3 : IVec Cert.Pre_finite.S40x1792 8) (a4 : FVec Ideal Cert.Pre_finite.S1792 .f32)
    (h : Cert.Pre_finite.fn (F := Ideal) x a1 a2 a3 a4 = fun _ => 1#1) (i : Cert.Pre_finite.S3x8192x5120.Idx) :
    max (x i) (-(x i)) ≤ Ideal.ofBits .bf16 0x7F7F#16 := by
  have e := congrFun h i
  have e' : BitVec.ofBool (decide (max (x i) (-(x i)) ≤ Ideal.ofBits .bf16 0x7F7F#16)) = 1#1 := e
  by_contra hn
  rw [decide_eq_false hn] at e'
  exact absurd e' (by decide)

end Cert.Finite

end
-- ==== Proof.RefScale.lean ====
/-
  What the reference quantises to: its level, its scale as the least power of two above the level, and its codes, row by
  row, are those of the quantiser of one row.
-/
module

public import proofs.«01_k».proof.Proof.BlockScale
public import proofs.«01_k».proof.Proof.Gen.ReferenceIdeal.Skeleton
public import Idealize.ShloMosaic.Lib.Pointwise

@[expose] public section

noncomputable section

open Idealize.ShloMosaic Idealize.ShloMosaic.TcCoe Idealize.ShloMosaic.Tactic Idealize.ShloMosaic.Pointwise

namespace Cert.Ref

open Cert.ReferenceIdeal Cert.ReferenceIdeal.Gen Cert.Words

/-- The largest element along the rows of any matrix, at a row. -/
theorem max_row {n0 n1 : ℕ} {t : Shape} (h : (⟨2, ![n0, n1]⟩ : Shape).Reduces [1] t)
    (x : FVec Ideal (⟨2, ![n0, n1]⟩ : Shape) .f32) (j : t.Idx) (r : Fin n0) (hr : (j ⟨0, h.lt_r2_a1_0⟩).val = r.val) :
    multiReduction .maximumf [1] t x 0xFF800000#32 h (.inl rfl) rfl j
      = Finset.univ.fold max (Ideal.ofBits .f32 0xFF800000#32) fun k : Fin n1 => x (ix2 r k) := by
  obtain ⟨r, hlt⟩ := r
  subst hr
  refine (multiReduction_maximumf_eq_fold (F := Ideal) x 0xFF800000#32 h (.inl rfl) rfl j).trans ?_
  exact Shape.Reduces.fold_fiber_r2_a1 h j _ _ _

/-- The least element along the rows of any matrix, at a row. -/
theorem min_row {n0 n1 : ℕ} {t : Shape} (h : (⟨2, ![n0, n1]⟩ : Shape).Reduces [1] t)
    (x : FVec Ideal (⟨2, ![n0, n1]⟩ : Shape) .f32) (j : t.Idx) (r : Fin n0) (hr : (j ⟨0, h.lt_r2_a1_0⟩).val = r.val) :
    multiReduction .minimumf [1] t x 0x7F800000#32 h (.inl rfl) rfl j
      = Finset.univ.fold min (Ideal.ofBits .f32 0x7F800000#32) fun k : Fin n1 => x (ix2 r k) := by
  obtain ⟨r, hlt⟩ := r
  subst hr
  refine (multiReduction_minimumf_eq_fold (F := Ideal) x 0x7F800000#32 h (.inl rfl) rfl j).trans ?_
  exact Shape.Reduces.fold_fiber_r2_a1 h j _ _ _

/-- The activations, their rows in order. -/
abbrev flat (x : Vec Ideal S3x8192x5120 .bf16) : FVec Ideal S24576x5120 .bf16 :=
  shapeCast S24576x5120 x shapeCasts_S3x8192x5120_S24576x5120

/-- Row `r` of a matrix of activations. -/
def row (X : Vec Ideal S24576x5120 .bf16) (r : Fin 24576) : Fin 5120 → EReal := fun k => X (ix2 r k)

/-- The largest magnitude of every row. -/
def peak (X : FVec Ideal S24576x5120 .f32) : FVec Ideal S24576 .f32 :=
  multiReduction .maximumf [1] S24576 (absf X) 0xFF800000#32 reduces_S24576x5120_S24576 (.inl rfl) rfl

theorem peak_apply (X : FVec Ideal S24576x5120 .f32) (r : Fin 24576) :
    peak X (ix1 r) = Finset.univ.fold max (Ideal.ofBits .f32 0xFF800000#32) fun k : Fin 5120 => max (X (ix2 r k)) (-(X (ix2 r k))) :=
  max_row (n0 := 24576) (n1 := 5120) reduces_S24576x5120_S24576 (absf X) (ix1 r) r rfl

/-- The level of every row. -/
def levels (x : Vec Ideal S3x8192x5120 .bf16) : FVec Ideal S24576x1 .f32 :=
  mulf (shapeCast S24576x1 (peak (k0_pay2 x)) shapeCasts_S24576_S24576x1) (broadcast S24576x1 (Scalar.ofBits .f32 0x3B124925#32))

theorem pay2_apply (x : Vec Ideal S3x8192x5120 .bf16) (r : Fin 24576) (k : Fin 5120) : k0_pay2 x (ix2 r k) = flat x (ix2 r k) := rfl

theorem levels_apply (x : Vec Ideal S3x8192x5120 .bf16) (r : Fin 24576) (c : Fin 1) :
    levels x (ix2 r c) = level (row (flat x) r) := by
  obtain rfl : c = 0 := Subsingleton.elim _ _
  have e (p : FVec Ideal S24576 .f32) : mulf (shapeCast S24576x1 p shapeCasts_S24576_S24576x1)
      (broadcast S24576x1 (Scalar.ofBits .f32 0x3B124925#32)) (ix2 r (0 : Fin 1)) = p (ix1 r) * Ideal.ofBits .f32 0x3B124925#32 := by pointwise
  unfold levels
  rw [e, peak_apply, neg_inf_f32, ← neg_inf_bf16]
  simp only [pay2_apply, level, row]

/-- The powers of two from 2^-125 to 2^127. -/
def powers : FVec Ideal S1x253 .f32 :=
  exp2 (sitofp .f32 (subi (iota .tc S1x253 32 [1] iota_S1x253_d1_w32) (broadcast S1x253 125#32)))

theorem powers_apply (k : Fin 253) : powers (ix2 (0 : Fin 1) k) = power (k.val + 2) := by
  rw [← power_list k.val k.isLt]
  have e : powers (ix2 (0 : Fin 1) k) = Ideal.exp2 (((BitVec.ofNat 32 k.val - 125#32).toInt : ℝ) : EReal) := by
    have h := iota_single_apply .tc S1x253 32 1 iota_S1x253_d1_w32 (ix2 (0 : Fin 1) k)
    show Ideal.exp2 (((iota .tc S1x253 32 [1] iota_S1x253_d1_w32 (ix2 (0 : Fin 1) k) - 125#32).toInt : ℝ) : EReal) = _
    rw [h]
    rfl
  rw [e]
  have h2 : (BitVec.ofNat 32 k.val - 125#32).toInt = (k.val : ℤ) - 125 := by
    have := k.isLt
    rw [BitVec.toInt_sub, BitVec.toInt_ofNat', BitVec.toInt_ofNat']
    simp only [Int.bmod_def]
    omega
  rw [h2]

/-- In every row the powers of two above the level, infinity in place of the others. -/
def above (v : FVec Ideal S24576x1 .f32) : FVec Ideal S24576x253 .f32 :=
  select (cmpf .ogt (broadcastTo S24576x253 powers broadcasts_S1x253_S24576x253) (broadcastTo S24576x253 v broadcasts_S24576x1_S24576x253))
    (broadcastTo S24576x253 (shapeCast S1x253 powers shapeCasts_S1x253_S1x253) broadcasts_S1x253_S24576x253)
    (broadcast S24576x253 (Scalar.ofBits .f32 0x7F800000#32))

theorem above_apply (v : FVec Ideal S24576x1 .f32) (r : Fin 24576) (k : Fin 253) :
    above v (ix2 r k) = if v (ix2 r (0 : Fin 1)) < power (k.val + 2) then power (k.val + 2) else ⊤ := by
  unfold above
  rw [shapeCast_self, ← powers_apply, ← pos_inf_f32]
  generalize powers = P
  pointwise

/-- The least power of two above the level, in every row. -/
def least (v : FVec Ideal S24576x1 .f32) : FVec Ideal S24576 .f32 :=
  multiReduction .minimumf [1] S24576 (above v) 0x7F800000#32 reduces_S24576x253_S24576 (.inl rfl) rfl

theorem least_apply (v : FVec Ideal S24576x1 .f32) (r : Fin 24576) :
    least v (ix1 r) = Finset.univ.fold min ⊤ fun k : Fin 253 =>
      if v (ix2 r (0 : Fin 1)) < power (k.val + 2) then power (k.val + 2) else ⊤ := by
  refine (min_row (n0 := 24576) (n1 := 253) reduces_S24576x253_S24576 (above v) (ix1 r) r rfl).trans ?_
  rw [pos_inf_f32]
  simp only [above_apply]

theorem pay3_eq (x : Vec Ideal S3x8192x5120 .bf16) : k0_pay3 x
    = select (cmpf .olt (levels x) (broadcast S24576x1 (Scalar.ofBits .f32 0x00800000#32)))
      (broadcast S24576x1 (Scalar.ofBits .f32 0x3F800000#32)) (shapeCast S24576x1 (least (levels x)) shapeCasts_S24576_S24576x1) := rfl

/-- The reference's scale is the row's. -/
theorem scale_apply (x : Vec Ideal S3x8192x5120 .bf16) (r : Fin 24576) (c : Fin 1)
    (h0 : 0 ≤ level (row (flat x) r)) (h1 : level (row (flat x) r) < power 247) :
    k0_pay3 x (ix2 r c) = scale (row (flat x) r) := by
  obtain rfl : c = 0 := Subsingleton.elim _ _
  have e (v : FVec Ideal S24576x1 .f32) (l : FVec Ideal S24576 .f32) :
      select (cmpf .olt v (broadcast S24576x1 (Scalar.ofBits .f32 0x00800000#32)))
      (broadcast S24576x1 (Scalar.ofBits .f32 0x3F800000#32)) (shapeCast S24576x1 l shapeCasts_S24576_S24576x1) (ix2 r (0 : Fin 1))
      = if v (ix2 r (0 : Fin 1)) < Ideal.ofBits .f32 0x00800000#32 then Ideal.ofBits .f32 0x3F800000#32 else l (ix1 r) := by
    pointwise
  rw [pay3_eq, e, least_apply, levels_apply, least_normal, one_word]
  exact scale_eq h0 h1

/-- The reference's codes are the row's. -/
theorem code_apply (x : Vec Ideal S3x8192x5120 .bf16) (r : Fin 24576) (k : Fin 5120)
    (h0 : 0 ≤ level (row (flat x) r)) (h1 : level (row (flat x) r) < power 247) :
    k0_pay4 x (ix2 r k) = code (row (flat x) r) k := by
  have e (X : FVec Ideal S24576x5120 .f32) (s : FVec Ideal S24576x1 .f32) :
      truncf .fp8e4m3 (minimumf (broadcast S24576x5120 (Scalar.ofBits .f32 0x43E00000#32)) (maximumf (broadcast S24576x5120 (Scalar.ofBits .f32 0xC3E00000#32))
        (mulf X (broadcastTo S24576x5120 (divf (broadcast S24576x1 (Scalar.ofBits .f32 0x3F800000#32)) s) broadcasts_S24576x1_S24576x5120)))) bitsLt_fp8e4m3_f32 (ix2 r k)
      = min (Ideal.ofBits .f32 0x43E00000#32) (max (Ideal.ofBits .f32 0xC3E00000#32)
          (X (ix2 r k) * Ideal.div (Ideal.ofBits .f32 0x3F800000#32) (s (ix2 r (0 : Fin 1))))) := by
    pointwise
  refine (e (k0_pay2 x) (k0_pay3 x)).trans ?_
  obtain ⟨b1, b2⟩ := scaleField_bounds h0 h1
  rw [scale_apply x r 0 h0 h1, one_word, scale, div_power (by omega) (by omega)]
  rfl

end Cert.Ref

end
-- ==== Proof.RefMatmul.lean ====
/-
  What the reference multiplies: its two halves of the weights are the dequantised weights, and its result is the linear
  layer entry by entry.
-/
module

public import proofs.«01_k».proof.Proof.RefScale
public import proofs.«01_k».proof.Proof.BlockMatmul

@[expose] public section

noncomputable section

open Idealize.ShloMosaic Idealize.ShloMosaic.TcCoe Idealize.ShloMosaic.Tactic Idealize.ShloMosaic.Pointwise

namespace Cert.Ref

open Cert.ReferenceIdeal Cert.ReferenceIdeal.Gen Cert.Words Cert.Block

/-- One row for each group of 128, repeated over the rows of the group. -/
def spread (v : FVec Ideal S40x896 .bf16) : FVec Ideal S5120x896 .bf16 :=
  shapeCast S5120x896 (broadcastTo S40x128x896 (shapeCast S40x1x896 v shapeCasts_S40x896_S40x1x896) broadcasts_S40x1x896_S40x128x896)
    shapeCasts_S40x128x896_S5120x896

theorem spread_apply (v : FVec Ideal S40x896 .bf16) (k : Fin 5120) (n : Fin 896) :
    spread v (ix2 k n) = v (ix2 ⟨k.val / 128, by omega⟩ n) := by
  pointwise [spread]

/-- The low halves of the weights. -/
def lows (p : IVec S5120x896 32) (z : Vec Ideal S40x1792 .i8) (s : Vec Ideal S40x1792 .f32) : FVec Ideal S5120x896 .bf16 :=
  mulf (subf (sitofp .bf16 (andi p (broadcast S5120x896 15#32)))
    (spread (uitofp .bf16 (extractStridedSlice S40x896 ![0, 0] z slices_S40x1792_o0_0_S40x896))))
    (spread (truncf .bf16 (extractStridedSlice S40x896 ![0, 0] s slices_S40x1792_o0_0_S40x896) bitsLt_bf16_f32))

/-- The high halves of the weights. -/
def highs (p : IVec S5120x896 32) (z : Vec Ideal S40x1792 .i8) (s : Vec Ideal S40x1792 .f32) : FVec Ideal S5120x896 .bf16 :=
  mulf (subf (sitofp .bf16 (shrsi p (broadcast S5120x896 4#32)))
    (spread (uitofp .bf16 (extractStridedSlice S40x896 ![0, 896] z slices_S40x1792_o0_896_S40x896))))
    (spread (truncf .bf16 (extractStridedSlice S40x896 ![0, 896] s slices_S40x1792_o0_896_S40x896) bitsLt_bf16_f32))

/-- A byte read as a number is the same widened first. -/
theorem byte_number (z : BitVec 8) : FloatOps.uitofp (F := Ideal) .bf16 z = FloatOps.sitofp (F := Ideal) .f32 (BitVec.setWidth 32 z) := by
  show ((z.toNat : ℝ) : EReal) = (((BitVec.setWidth 32 z).toInt : ℝ) : EReal)
  have h : (BitVec.setWidth 32 z).toInt = (z.toNat : ℤ) := by
    rw [BitVec.toInt_eq_toNat_of_lt (by rw [BitVec.toNat_setWidth]; have := z.isLt; omega), BitVec.toNat_setWidth]
    have := z.isLt
    omega
  rw [h, Int.cast_natCast]

theorem lows_apply (p : Vec Ideal S5120x896 .i8) (z : Vec Ideal S40x1792 .i8) (s : Vec Ideal S40x1792 .f32) (k : Fin 5120) (n : Fin 896) :
    lows (k0_pay5 p) z s (ix2 k n) = wAt p s z k ⟨n.val, by omega⟩ := by
  have hn : decide (896 ≤ n.val) = false := by simp
  have h2 : (⟨n.val % 896, Nat.mod_lt _ (by decide)⟩ : Fin 896) = n := Fin.ext (Nat.mod_eq_of_lt n.isLt)
  unfold wAt weight
  dsimp only
  rw [hn, h2, ← byte_number]
  pointwise [lows, k0_pay5]
  rw [spread_apply, spread_apply]
  pointwise
  rfl

theorem highs_apply (p : Vec Ideal S5120x896 .i8) (z : Vec Ideal S40x1792 .i8) (s : Vec Ideal S40x1792 .f32) (k : Fin 5120) (n : Fin 896) :
    highs (k0_pay5 p) z s (ix2 k n) = wAt p s z k ⟨896 + n.val, by omega⟩ := by
  have hn : decide (896 ≤ 896 + n.val) = true := by simp
  have h2 : (⟨(896 + n.val) % 896, Nat.mod_lt _ (by decide)⟩ : Fin 896) = n := Fin.ext (by show (896 + n.val) % 896 = n.val; omega)
  unfold wAt weight
  dsimp only
  rw [hn, h2, ← byte_number]
  pointwise [highs, k0_pay5]
  rw [spread_apply, spread_apply]
  pointwise
  rfl

/-- One half of the product. -/
def half (q : FVec Ideal S24576x5120 .fp8e4m3) (w : FVec Ideal S5120x896 .bf16) : FVec Ideal S24576x896 .f32 :=
  matmul dot_S24576x5120_S5120x896_S24576x896_1_0_0_1_n_n none (extf .bf16 q bitsLt_fp8e4m3_bf16) w (constant S24576x896 .f32 0x00000000#32)

theorem half_apply (q : FVec Ideal S24576x5120 .fp8e4m3) (w : FVec Ideal S5120x896 .bf16) (r : Fin 24576) (n : Fin 896) :
    half q w (ix2 r n) = ∑ k : Fin 5120, q (ix2 r k) * w (ix2 k n) := by
  pointwise [half, dot_S24576x5120_S5120x896_S24576x896_1_0_0_1_n_n]

theorem pay1_eq (s : FVec Ideal S24576x1 .f32) (q : FVec Ideal S24576x5120 .fp8e4m3) (p : IVec S5120x896 32) (z : Vec Ideal S40x1792 .i8)
    (gs : Vec Ideal S40x1792 .f32) (ws : Vec Ideal S1792 .f32) : k0_pay1 s q p z gs ws
    = truncf .bf16 (mulf (mulf (concatenate S24576x1792 1 [⟨S24576x896, half q (lows p z gs)⟩, ⟨S24576x896, half q (highs p z gs)⟩]
        concatenates_S24576x896_S24576x896_S24576x1792_d1) (broadcastTo S24576x1792 s broadcasts_S24576x1_S24576x1792))
        (broadcastTo S24576x1792 (shapeCast S1x1792 ws shapeCasts_S1792_S1x1792) broadcasts_S1x1792_S24576x1792)) bitsLt_bf16_f32 := rfl

/-- The reference's result, entry by entry. -/
theorem product_apply (s : FVec Ideal S24576x1 .f32) (q : FVec Ideal S24576x5120 .fp8e4m3) (p : Vec Ideal S5120x896 .i8) (z : Vec Ideal S40x1792 .i8)
    (gs : Vec Ideal S40x1792 .f32) (ws : Vec Ideal S1792 .f32) (r : Fin 24576) (n : Fin 1792) :
    k0_pay1 s q (k0_pay5 p) z gs ws (ix2 r n)
      = ((∑ k : Fin 5120, q (ix2 r k) * wAt p gs z k n) * s (ix2 r (0 : Fin 1)))
        * (shapeCast S1x1792 ws shapeCasts_S1792_S1x1792) (ix2 (0 : Fin 1) n) := by
  have e (A B : FVec Ideal S24576x896 .f32) (W : FVec Ideal S1x1792 .f32) :
      truncf .bf16 (mulf (mulf (concatenate S24576x1792 1 [⟨S24576x896, A⟩, ⟨S24576x896, B⟩]
        concatenates_S24576x896_S24576x896_S24576x1792_d1) (broadcastTo S24576x1792 s broadcasts_S24576x1_S24576x1792))
        (broadcastTo S24576x1792 W broadcasts_S1x1792_S24576x1792)) bitsLt_bf16_f32 (ix2 r n)
      = ((if h : n.val < 896 then A (ix2 r ⟨n.val, h⟩) else B (ix2 r ⟨n.val - 896, by omega⟩)) * s (ix2 r (0 : Fin 1))) * W (ix2 (0 : Fin 1) n) := by
    pointwise
  have hsum : (if h : n.val < 896 then half q (lows (k0_pay5 p) z gs) (ix2 r ⟨n.val, h⟩) else half q (highs (k0_pay5 p) z gs) (ix2 r ⟨n.val - 896, by omega⟩))
      = ∑ k : Fin 5120, q (ix2 r k) * wAt p gs z k n := by
    by_cases h : n.val < 896
    · rw [dif_pos h, half_apply]
      simp only [lows_apply]
    · rw [dif_neg h, half_apply]
      have hn : (⟨896 + (n.val - 896), by omega⟩ : Fin 1792) = n := Fin.ext (by show 896 + (n.val - 896) = n.val; omega)
      simp only [highs_apply, hn]
  rw [pay1_eq, e, hsum]

end Cert.Ref

end
-- ==== Proof.Equation.lean ====
/-
  The equation: on finite activations the arrays of the kernel and of the reference are the same.
-/
module

public import proofs.«01_k».proof.Defs
public import proofs.«01_k».proof.Proof.Arrays
public import proofs.«01_k».proof.Proof.Bound
public import proofs.«01_k».proof.Proof.RefMatmul
public import proofs.«01_k».proof.Proof.Gen.ReferenceIdeal.Value

@[expose] public section

noncomputable section

open Idealize.ShloMosaic Idealize.ShloMosaic.TcCoe Idealize.SL.Sem

namespace Cert.Equation

open Cert.KernelIdeal Cert.KernelIdeal.Gen Cert.Words Cert.Sweep

variable (m : (ℓ : Loc nD τ sig) → Buf (Elt Ideal) ℓ)

/-- The precondition is stated with one side condition, a broadcast of a scalar. -/
theorem facts : Cert.Pre_finite.Facts := ⟨by decide⟩

/-- On finite activations the level of every row is within the range of the search. -/
theorem level_range [hPre_finite : Cert.Pre_finite.Facts] (h : Cert.Pre_KernelIdeal_finite m) (c : Dev nD) (r : Fin 24576) :
    0 ≤ level (row (X m c) r) ∧ level (row (X m c) r) < power 247 := by
  refine ⟨level_nonneg _, level_lt _ fun k => ?_⟩
  show max (X m c (ix2 r k)) (-(X m c (ix2 r k))) ≤ _
  rw [X_eq]
  exact Cert.Finite.of_pre _ _ _ _ _ (h c) _

/-- So is the field of its scale. -/
theorem field_range [hPre_finite : Cert.Pre_finite.Facts] (h : Cert.Pre_KernelIdeal_finite m) (c : Dev nD) (r : Fin 24576) :
    scaleField (level (row (X m c) r)) ≤ 254 := by
  obtain ⟨h0, h1⟩ := level_range m h c r
  have := (scaleField_bounds h0 h1).2
  omega

section
variable (c : Dev nD)
variable (hr : ∀ r, 0 ≤ level (row (X m c) r) ∧ level (row (X m c) r) < power 247)
include hr

/-- The reference's scales are the kernel's. -/
theorem scales_eq : Cert.ReferenceIdeal.Gen.k0_pay3 (F := Ideal) (m ((c : Thread nD τ).loc main_arg0)) = scales (X m c) := by
  rw [X_eq] at hr ⊢
  funext j
  obtain ⟨r, k, rfl⟩ := split2 (a := 24576) (b := 1) j
  exact Cert.Ref.scale_apply _ r k (hr r).1 (hr r).2

/-- The reference's codes are the kernel's. -/
theorem codes_eq : Cert.ReferenceIdeal.Gen.k0_pay4 (F := Ideal) (m ((c : Thread nD τ).loc main_arg0)) = codes (X m c) := by
  rw [X_eq] at hr ⊢
  funext j
  obtain ⟨r, k, rfl⟩ := split2 (a := 24576) (b := 5120) j
  exact Cert.Ref.code_apply _ r k (hr r).1 (hr r).2

/-- The reference's products are the kernel's. -/
theorem products_eq : Cert.ReferenceIdeal.Gen.k0_pay1 (F := Ideal) (Cert.ReferenceIdeal.Gen.k0_pay3 (m ((c : Thread nD τ).loc main_arg0)))
      (Cert.ReferenceIdeal.Gen.k0_pay4 (m ((c : Thread nD τ).loc main_arg0))) (Cert.ReferenceIdeal.Gen.k0_pay5 (m ((c : Thread nD τ).loc main_arg1)))
      (m ((c : Thread nD τ).loc main_arg3)) (m ((c : Thread nD τ).loc main_arg2)) (m ((c : Thread nD τ).loc main_arg4))
    = product (X m c) (W m c) (V m c main_v1) := by
  rw [scales_eq m c hr, codes_eq m c hr, ws_eq]
  funext j
  obtain ⟨r, n, rfl⟩ := split2 (a := 24576) (b := 1792) j
  refine (Cert.Ref.product_apply _ _ _ _ _ _ r n).trans ?_
  show _ = entry (X m c) (W m c) _ r n
  unfold W
  rw [V_main_arg1, V_main_arg2, V_main_arg3]
  rfl

end

/-- On finite activations the kernel and the reference both run and end with equal results and unchanged arguments. -/
theorem algebraic [hPre_finite : Cert.Pre_finite.Facts] : Cert.algebraic_KernelIdeal_ReferenceIdeal_pre_finite := by
  intro m g m' g' h e
  have hr := level_range m h
  have hs := field_range m h
  refine ⟨fun c => product (X m c) (W m c) (V m c main_v1), fun c => codes (X m c), fun c => scales (X m c), ?_, ?_⟩
  · exact (θ_run defs _ _).mono (fun r H c => by
      obtain ⟨k5, k6, k7, ka⟩ := H c
      exact ⟨k5.trans (final5 m c (hs c)), k6.trans (final6 m c (hs c)), k7.trans (final7 m c), ka⟩) (Value.run_blocks m g)
  · exact (θ_run Cert.ReferenceIdeal.defs _ _).mono (fun r H c => by
      obtain ⟨k5, k6, k7, ka⟩ := H c
      obtain ⟨e0, e1, e2, e3, e4⟩ := e c
      rw [e0, e1, e2, e3, e4] at k5
      rw [e0] at k6 k7
      exact ⟨k5.trans (products_eq m c (hr c)), k6.trans (codes_eq m c (hr c)), k7.trans (scales_eq m c (hr c)), ka⟩)
      (Cert.ReferenceIdeal.Value.run m' g')

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The claim: the frames of the kernel, of its exact reading and of the reference, and the equality of the results of the
    last two on finite activations. -/
theorem claim : Cert.Claim :=
  ⟨Cert.Kernel.Gen.facts, Cert.KernelIdeal.Gen.facts, Cert.ReferenceIdeal.Gen.facts, Cert.Equation.facts,
    fun m ρ _ => Cert.Kernel.Gen.frame m ρ,
    fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    trivial, Cert.Equation.algebraic (hPre_finite := Cert.Equation.facts)⟩

end Cert.Proof

end
